-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  bcast_S_S512x2048 : S_.BroadcastsInDim S512x2048 (![] : Fin 0 → Fin S512x2048.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x2048 .bf16) (main_arg2 : FVec F S2x128x4x64 .bf16) (main_arg3 : FVec F S2x128x4x64 .bf16) (main_arg4 : FVec F S2048x512 .bf16) : IVec S2x128x512 1 × IVec S512x2048 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_scores_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  bcast_S_S512x2048 : S_.BroadcastsInDim S512x2048 (![] : Fin 0 → Fin S512x2048.rank)
  bcast_S_S2x128x32x64 : S_.BroadcastsInDim S2x128x32x64 (![] : Fin 0 → Fin S2x128x32x64.rank)

variable [Facts]

def fn {F : FTy → Type} [FloatOps F] (main_arg0 : FVec F S2x128x512 .bf16) (main_arg1 : FVec F S512x2048 .bf16) (main_arg2 : FVec F S2x128x32x64 .bf16) (main_arg3 : FVec F S2x128x32x64 .bf16) (main_arg4 : FVec F S2048x512 .bf16) : IVec S2x128x512 1 × IVec S512x2048 1 × IVec S2x128x32x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S2x128x32x64 .bf16 := Host.absf main_arg2
  let main_cst_1 : FVec F S_ .bf16 := constant S_ .bf16 0x7F80#16
  let main_v7 : FVec F S2x128x32x64 .bf16 := broadcastInDim S2x128x32x64 ![] bcast_S_S2x128x32x64 main_cst_1
  let main_v8 : IVec S2x128x32x64 1 := cmpf .olt main_v6 main_v7
  (main_v2, main_v5, main_v8)
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩
abbrev S256x512 : Shape := ⟨2, ![256, 512]⟩
abbrev S512x256 : Shape := ⟨2, ![512, 256]⟩
abbrev S4x64x2x128 : Shape := ⟨4, ![4, 64, 2, 128]⟩
abbrev S4x64x256 : Shape := ⟨3, ![4, 64, 256]⟩
abbrev S4x2x128x64 : Shape := ⟨4, ![4, 2, 128, 64]⟩
abbrev S4x256x64 : Shape := ⟨3, ![4, 256, 64]⟩
abbrev S256x1024 : Shape := ⟨2, ![256, 1024]⟩
abbrev S1024x256 : Shape := ⟨2, ![1024, 256]⟩
abbrev S256x256 : Shape := ⟨2, ![256, 256]⟩
abbrev S32x2048 : Shape := ⟨2, ![32, 2048]⟩
abbrev S8x32x256 : Shape := ⟨3, ![8, 32, 256]⟩
abbrev S8x32x512 : Shape := ⟨3, ![8, 32, 512]⟩
abbrev S7 : Shape := ⟨1, ![7]⟩
abbrev S1x64x256 : Shape := ⟨3, ![1, 64, 256]⟩
abbrev S64x256 : Shape := ⟨2, ![64, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S1 : Shape := ⟨1, ![1]⟩
abbrev S1x32x256 : Shape := ⟨3, ![1, 32, 256]⟩
abbrev S32x256 : Shape := ⟨2, ![32, 256]⟩
abbrev S32x512 : Shape := ⟨2, ![32, 512]⟩
abbrev S1x32x512 : Shape := ⟨3, ![1, 32, 512]⟩

abbrev nBuf : Space → Nat
  | .hbm => 30
  | .vmem => 13
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x4x64, .bf16⟩
  | .hbm, ⟨3, _⟩ => ⟨S2x128x4x64, .bf16⟩
  | .hbm, ⟨4, _⟩ => ⟨S2048x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x512, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S512x256, .bf16⟩
  | .hbm, ⟨21, _⟩ => ⟨S_, .bf16⟩
  | .hbm, ⟨22, _⟩ => ⟨S512x256, .bf16⟩
  | .hbm, ⟨23, _⟩ => ⟨S512x256, .bf16⟩
  | .hbm, ⟨24, _⟩ => ⟨S4x64x2x128, .bf16⟩
  | .hbm, ⟨25, _⟩ => ⟨S4x64x256, .bf16⟩
  | .hbm, ⟨26, _⟩ => ⟨S4x2x128x64, .bf16⟩
  | .hbm, ⟨27, _⟩ => ⟨S4x256x64, .bf16⟩
  | .hbm, ⟨28, _⟩ => ⟨S256x512, .f32⟩
  | .hbm, ⟨29, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S4x64x256, .bf16⟩
  | .local _ .vmem, ⟨3, _⟩ => ⟨S4x256x64, .bf16⟩
  | .local _ .vmem, ⟨4, _⟩ => ⟨S2048x512, .bf16⟩
  | .local _ .vmem, ⟨5, _⟩ => ⟨S256x512, .f32⟩
  | .local _ .vmem, ⟨6, _⟩ => ⟨S256x1024, .bf16⟩
  | .local _ .vmem, ⟨7, _⟩ => ⟨S1024x256, .bf16⟩
  | .local _ .vmem, ⟨8, _⟩ => ⟨S256x256, .bf16⟩
  | .local _ .vmem, ⟨9, _⟩ => ⟨S32x2048, .bf16⟩
  | .local _ .vmem, ⟨10, _⟩ => ⟨S2048x512, .bf16⟩
  | .local _ .vmem, ⟨11, _⟩ => ⟨S8x32x256, .bf16⟩
  | .local _ .vmem, ⟨12, _⟩ => ⟨S8x32x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_120 : BitVec 32 := 0#32
  let c0_i32_121 : BitVec 32 := 0#32
  ![v2.toNat, 0, 0]
def k0_off2 (d0 : Dev nD) (c1_i32_114 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 32 := Scalar.addi v2 c1_i32_114
  let c8_i32_115 : BitVec 32 := 8#32
  let v240 : BitVec 32 := Scalar.remsi v239 c8_i32_115
  let c32_i32 : BitVec 32 := 32#32
  let v241 : BitVec 32 := Scalar.muli v240 c32_i32
  let c0_i32_122 : BitVec 32 := 0#32
  ![v241.toNat, 0]
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v239 : BitVec 32 := Scalar.addi v2 c1_i32_114
  let c8_i32_115 : BitVec 32 := 8#32
  let v240 : BitVec 32 := Scalar.remsi v239 c8_i32_115
  let c1_i32_118 : BitVec 32 := 1#32
  let v242 : BitVec 32 := Scalar.muli v240 c1_i32_118
  let v243 : BitVec 32 := Scalar.addi c0_i32_119 v242
  v243.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_123 : BitVec 32 := 2#32
  let v251 : BitVec 32 := Scalar.addi v2 c2_i32_123
  let c8_i32_124 : BitVec 32 := 8#32
  let v252 : BitVec 32 := Scalar.remsi v251 c8_i32_124
  let c1_i32_128 : BitVec 32 := 1#32
  let v254 : BitVec 32 := Scalar.muli v252 c1_i32_128
  let v255 : BitVec 32 := Scalar.addi c0_i32_129 v254
  v255.toNat
def k0_dev10 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_133 : BitVec 32 := 3#32
  let v263 : BitVec 32 := Scalar.addi v2 c3_i32_133
  let c8_i32_134 : BitVec 32 := 8#32
  let v264 : BitVec 32 := Scalar.remsi v263 c8_i32_134
  let c1_i32_138 : BitVec 32 := 1#32
  let v266 : BitVec 32 := Scalar.muli v264 c1_i32_138
  let v267 : BitVec 32 := Scalar.addi c0_i32_139 v266
  v267.toNat
def k0_dev11 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_143 : BitVec 32 := 4#32
  let v275 : BitVec 32 := Scalar.addi v2 c4_i32_143
  let c8_i32_144 : BitVec 32 := 8#32
  let v276 : BitVec 32 := Scalar.remsi v275 c8_i32_144
  let c1_i32_148 : BitVec 32 := 1#32
  let v278 : BitVec 32 := Scalar.muli v276 c1_i32_148
  let v279 : BitVec 32 := Scalar.addi c0_i32_149 v278
  v279.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_153 : BitVec 32 := 5#32
  let v287 : BitVec 32 := Scalar.addi v2 c5_i32_153
  let c8_i32_154 : BitVec 32 := 8#32
  let v288 : BitVec 32 := Scalar.remsi v287 c8_i32_154
  let c1_i32_158 : BitVec 32 := 1#32
  let v290 : BitVec 32 := Scalar.muli v288 c1_i32_158
  let v291 : BitVec 32 := Scalar.addi c0_i32_159 v290
  v291.toNat
def k0_dev13 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v299 : BitVec 32 := Scalar.addi v2 c6_i32_163
  let c8_i32_164 : BitVec 32 := 8#32
  let v300 : BitVec 32 := Scalar.remsi v299 c8_i32_164
  let c1_i32_168 : BitVec 32 := 1#32
  let v302 : BitVec 32 := Scalar.muli v300 c1_i32_168
  let v303 : BitVec 32 := Scalar.addi c0_i32_169 v302
  v303.toNat
def k0_dev14 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_173 : BitVec 32 := 7#32
  let v311 : BitVec 32 := Scalar.addi v2 c7_i32_173
  let c8_i32_174 : BitVec 32 := 8#32
  let v312 : BitVec 32 := Scalar.remsi v311 c8_i32_174
  let c1_i32_178 : BitVec 32 := 1#32
  let v314 : BitVec 32 := Scalar.muli v312 c1_i32_178
  let v315 : BitVec 32 := Scalar.addi c0_i32_179 v314
  v315.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_183 : BitVec 32 := 32#32
  let v323 : BitVec 32 := Scalar.muli v2 c32_i32_183
  let v324 : Index := Scalar.indexCast v323
  let c0_184 : Index := 0#32
  ![v324.toNat, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v326 : Index := Scalar.indexCast v2
  let c0_185 : Index := 0#32
  let c0_186 : Index := 0#32
  ![v326.toNat, 0, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v428 : Index := Scalar.indexCast v2
  let c0_277 : Index := 0#32
  let c0_278 : Index := 0#32
  ![v428.toNat, 0, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_285 : BitVec 32 := 0#32
  let c0_i32_286 : BitVec 32 := 0#32
  ![v2.toNat, 0, 0]
def k0_dev15 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_279 : BitVec 32 := 1#32
  let v432 : BitVec 32 := Scalar.addi v2 c1_i32_279
  let c8_i32_280 : BitVec 32 := 8#32
  let v433 : BitVec 32 := Scalar.remsi v432 c8_i32_280
  let c1_i32_283 : BitVec 32 := 1#32
  let v434 : BitVec 32 := Scalar.muli v433 c1_i32_283
  let v435 : BitVec 32 := Scalar.addi c0_i32_284 v434
  v435.toNat
def k0_dev16 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_289 : BitVec 32 := 2#32
  let v444 : BitVec 32 := Scalar.addi v2 c2_i32_289
  let c8_i32_290 : BitVec 32 := 8#32
  let v445 : BitVec 32 := Scalar.remsi v444 c8_i32_290
  let c1_i32_293 : BitVec 32 := 1#32
  let v446 : BitVec 32 := Scalar.muli v445 c1_i32_293
  let v447 : BitVec 32 := Scalar.addi c0_i32_294 v446
  v447.toNat
def k0_dev17 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_299 : BitVec 32 := 3#32
  let v456 : BitVec 32 := Scalar.addi v2 c3_i32_299
  let c8_i32_300 : BitVec 32 := 8#32
  let v457 : BitVec 32 := Scalar.remsi v456 c8_i32_300
  let c1_i32_303 : BitVec 32 := 1#32
  let v458 : BitVec 32 := Scalar.muli v457 c1_i32_303
  let v459 : BitVec 32 := Scalar.addi c0_i32_304 v458
  v459.toNat
def k0_dev18 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_309 : BitVec 32 := 4#32
  let v468 : BitVec 32 := Scalar.addi v2 c4_i32_309
  let c8_i32_310 : BitVec 32 := 8#32
  let v469 : BitVec 32 := Scalar.remsi v468 c8_i32_310
  let c1_i32_313 : BitVec 32 := 1#32
  let v470 : BitVec 32 := Scalar.muli v469 c1_i32_313
  let v471 : BitVec 32 := Scalar.addi c0_i32_314 v470
  v471.toNat
def k0_dev19 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_319 : BitVec 32 := 5#32
  let v480 : BitVec 32 := Scalar.addi v2 c5_i32_319
  let c8_i32_320 : BitVec 32 := 8#32
  let v481 : BitVec 32 := Scalar.remsi v480 c8_i32_320
  let c1_i32_323 : BitVec 32 := 1#32
  let v482 : BitVec 32 := Scalar.muli v481 c1_i32_323
  let v483 : BitVec 32 := Scalar.addi c0_i32_324 v482
  v483.toNat
def k0_dev20 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_329 : BitVec 32 := 6#32
  let v492 : BitVec 32 := Scalar.addi v2 c6_i32_329
  let c8_i32_330 : BitVec 32 := 8#32
  let v493 : BitVec 32 := Scalar.remsi v492 c8_i32_330
  let c1_i32_333 : BitVec 32 := 1#32
  let v494 : BitVec 32 := Scalar.muli v493 c1_i32_333
  let v495 : BitVec 32 := Scalar.addi c0_i32_334 v494
  v495.toNat
def k0_dev21 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_339 : BitVec 32 := 7#32
  let v504 : BitVec 32 := Scalar.addi v2 c7_i32_339
  let c8_i32_340 : BitVec 32 := 8#32
  let v505 : BitVec 32 := Scalar.remsi v504 c8_i32_340
  let c1_i32_343 : BitVec 32 := 1#32
  let v506 : BitVec 32 := Scalar.muli v505 c1_i32_343
  let v507 : BitVec 32 := Scalar.addi c0_i32_344 v506
  v507.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_349 : BitVec 32 := 32#32
  let v516 : BitVec 32 := Scalar.muli v2 c32_i32_349
  let v517 : Index := Scalar.indexCast v516
  let c0_350 : Index := 0#32
  ![v517.toNat, 0]
def k0_off8 (d0 : Dev nD) (c1_i32_359 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v527 : BitVec 32 := Scalar.subi v2 c1_i32_359
  let c8_i32_360 : BitVec 32 := 8#32
  let v528 : BitVec 32 := Scalar.addi v527 c8_i32_360
  let c8_i32_361 : BitVec 32 := 8#32
  let v529 : BitVec 32 := Scalar.remsi v528 c8_i32_361
  let v530 : Index := Scalar.indexCast v529
  let c0_362 : Index := 0#32
  let c0_363 : Index := 0#32
  ![v530.toNat, 0, 0]
def k0_off9 (d0 : Dev nD) (c1_i32_359 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v527 : BitVec 32 := Scalar.subi v2 c1_i32_359
  let c8_i32_360 : BitVec 32 := 8#32
  let v528 : BitVec 32 := Scalar.addi v527 c8_i32_360
  let c8_i32_361 : BitVec 32 := 8#32
  let v529 : BitVec 32 := Scalar.remsi v528 c8_i32_361
  let c32_i32_364 : BitVec 32 := 32#32
  let v534 : BitVec 32 := Scalar.muli v529 c32_i32_364
  let v535 : Index := Scalar.indexCast v534
  let c0_365 : Index := 0#32
  ![v535.toNat, 0]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 128
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x128x2048, .f32⟩
  | .hbm, ⟨6, _⟩ => ⟨S2x128x2048, .bf16⟩
  | .hbm, ⟨7, _⟩ => ⟨S2x128x32x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i32⟩
  | .hbm, ⟨52, _⟩ => ⟨S1x128, .i32⟩
  | .hbm, ⟨53, _⟩ => ⟨S1x128, .i1⟩
  | .hbm, ⟨54, _⟩ => ⟨S128x128, .i1⟩
  | .hbm, ⟨55, _⟩ => ⟨S128x128, .i1⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i1⟩
  | .hbm, ⟨70, _⟩ => ⟨S_, .i32⟩
  | .hbm, ⟨71, _⟩ => ⟨S128x128, .i32⟩
  | .hbm, ⟨72, _⟩ => ⟨S128x128, .i1⟩
  | .hbm, ⟨73, _⟩ => ⟨S_, .i32⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S128x128, .i1⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i1⟩
  | .hbm, ⟨84, _⟩ => ⟨S128x128, .i1⟩
  | .hbm, ⟨85, _⟩ => ⟨S2x32x128x128, .f32⟩
  | .hbm, ⟨86, _⟩ => ⟨S2x32x128x128, .bf16⟩
  | .hbm, ⟨87, _⟩ => ⟨S2x32x128x128, .f32⟩
  | .hbm, ⟨88, _⟩ => ⟨S_, .f32⟩
  | .hbm, ⟨89, _⟩ => ⟨S2x32x128x128, .f32⟩
  | .hbm, ⟨90, _⟩ => ⟨S2x32x128x128, .f32⟩
  | .hbm, ⟨91, _⟩ => ⟨S1x1x128x128, .i1⟩
  | .hbm, ⟨92, _⟩ => ⟨S_, .f32⟩
  | .hbm, ⟨93, _⟩ => ⟨S_, .f32⟩
  | .hbm, ⟨94, _⟩ => ⟨S2x32x128x128, .i1⟩
  | .hbm, ⟨95, _⟩ => ⟨S2x32x128x128, .f32⟩
  | .hbm, ⟨96, _⟩ => ⟨S2x32x128x128, .f32⟩
  | .hbm, ⟨97, _⟩ => ⟨S_, .f32⟩
  | .hbm, ⟨98, _⟩ => ⟨S2x32x128, .f32⟩
  | .hbm, ⟨99, _⟩ => ⟨S2x32x128x1, .f32⟩
  | .hbm, ⟨100, _⟩ => ⟨S2x32x128x128, .f32⟩
  | .hbm, ⟨101, _⟩ => ⟨S2x32x128x128, .f32⟩
  | .hbm, ⟨102, _⟩ => ⟨S2x32x128x128, .f32⟩
  | .hbm, ⟨103, _⟩ => ⟨S_, .i1⟩
  | .hbm, ⟨104, _⟩ => ⟨S128, .i1⟩
  | .hbm, ⟨105, _⟩ => ⟨S1x1x128x1, .i1⟩
  | .hbm, ⟨106, _⟩ => ⟨S_, .f32⟩
  | .hbm, ⟨107, _⟩ => ⟨S2x32x128, .f32⟩
  | .hbm, ⟨108, _⟩ => ⟨S2x32x128x1, .f32⟩
  | .hbm, ⟨109, _⟩ => ⟨S_, .f32⟩
  | .hbm, ⟨110, _⟩ => ⟨S_, .f32⟩
  | .hbm, ⟨111, _⟩ => ⟨S2x32x128x1, .i1⟩
  | .hbm, ⟨112, _⟩ => ⟨S2x32x128x1, .f32⟩
  | .hbm, ⟨113, _⟩ => ⟨S2x32x128x1, .f32⟩
  | .hbm, ⟨114, _⟩ => ⟨S2x32x128x128, .f32⟩
  | .hbm, ⟨115, _⟩ => ⟨S2x32x128x128, .f32⟩
  | .hbm, ⟨116, _⟩ => ⟨S1x1x128x1, .i1⟩
  | .hbm, ⟨117, _⟩ => ⟨S_, .f32⟩
  | .hbm, ⟨118, _⟩ => ⟨S_, .f32⟩
  | .hbm, ⟨119, _⟩ => ⟨S2x32x128x128, .i1⟩
  | .hbm, ⟨120, _⟩ => ⟨S2x32x128x128, .f32⟩
  | .hbm, ⟨121, _⟩ => ⟨S2x32x128x128, .f32⟩
  | .hbm, ⟨122, _⟩ => ⟨S2x128x32x64, .f32⟩
  | .hbm, ⟨123, _⟩ => ⟨S2x32x64x128, .f32⟩
  | .hbm, ⟨124, _⟩ => ⟨S2x128x32x64, .f32⟩
  | .hbm, ⟨125, _⟩ => ⟨S2x128x2048, .f32⟩
  | .hbm, ⟨126, _⟩ => ⟨S2048x512, .f32⟩
  | .hbm, ⟨127, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Slots.lean ====
/-
  The geometry of the exchange: the devices a device sends to and hears from, the blocks of rows and the slots that
  travel between devices, and how a buffer held whole is held block by block.
-/
module

public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Tactic
public import Idealize.ShloMosaic.Lib.Transfers
public import Idealize.ShloMosaic.Lib.Pipeline.Value
public import Idealize.ShloMosaic.Lib.Pipeline.ValueKit.Geometry
public import Idealize.SL.BI.BigOpNat

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## Devices -/

/-- The device `d + 1` places after `c` on the ring of eight. -/
def fwd (c : Dev nD) (d : ℕ) : Dev nD := ⟨(c.val + d + 1) % 8, Nat.mod_lt _ (by decide)⟩
/-- The device `d + 1` places before `c`. -/
def bwd (c : Dev nD) (d : ℕ) : Dev nD := ⟨(c.val + 7 - d) % 8, Nat.mod_lt _ (by decide)⟩

theorem fwd_val (c : Dev nD) (d : ℕ) : (fwd c d).val = (c.val + d + 1) % 8 := rfl
theorem bwd_val (c : Dev nD) (d : ℕ) : (bwd c d).val = (c.val + 7 - d) % 8 := rfl

theorem fwd_bwd (c : Dev nD) {d : ℕ} (h : d < 7) : fwd (bwd c d) d = c := by
  have := c.isLt; apply Fin.ext; rw [fwd_val, bwd_val]; change c.val < 8 at this; omega
theorem bwd_fwd (c : Dev nD) {d : ℕ} (h : d < 7) : bwd (fwd c d) d = c := by
  have := c.isLt; apply Fin.ext; rw [bwd_val, fwd_val]; change c.val < 8 at this; omega
/-- Going on by the complementary distance comes back. -/
theorem fwd_fwd (c : Dev nD) {d : ℕ} (h : d < 7) : fwd (fwd c d) (6 - d) = c := by
  have := c.isLt; apply Fin.ext; rw [fwd_val, fwd_val]; change c.val < 8 at this; omega
/-- Backwards by one distance is forwards by the complementary one. -/
theorem bwd_eq_fwd (c : Dev nD) {d : ℕ} (h : d < 7) : bwd c d = fwd c (6 - d) := by
  have := c.isLt; apply Fin.ext; rw [fwd_val, bwd_val]; change c.val < 8 at this; omega
theorem fwd_ne (c : Dev nD) {d : ℕ} (h : d < 7) : fwd c d ≠ c := by
  have := c.isLt; intro e; have := congrArg Fin.val e; rw [fwd_val] at this; change c.val < 8 at *; omega
theorem fwd_inj (c : Dev nD) {d d' : ℕ} (h : d < 7) (h' : d' < 7) (e : fwd c d = fwd c d') : d = d' := by
  have := c.isLt; have := congrArg Fin.val e; rw [fwd_val, fwd_val] at this; change c.val < 8 at *; omega
/-- Every device but `c` is `c`'s follower at some distance below seven. -/
theorem exists_fwd (c s : Dev nD) (h : s ≠ c) : ∃ d, d < 7 ∧ fwd c d = s := by
  have hs := s.isLt; have hc := c.isLt; change s.val < 8 at hs; change c.val < 8 at hc
  have hne : s.val ≠ c.val := fun e => h (Fin.ext e)
  refine ⟨(s.val + 7 - c.val) % 8, by omega, Fin.ext ?_⟩
  rw [fwd_val]; omega

/-- All devices: `c` and its seven followers. -/
theorem univ_eq_fwd (c : Dev nD) : (Finset.univ : Finset (Dev nD)) = insert c ((Finset.range 7).image (fwd c)) := by
  refine (Finset.eq_univ_iff_forall.mpr fun s => ?_).symm
  by_cases h : s = c
  · exact h ▸ Finset.mem_insert_self _ _
  · obtain ⟨d, hd, rfl⟩ := exists_fwd c s h
    exact Finset.mem_insert_of_mem (Finset.mem_image_of_mem _ (Finset.mem_range.mpr hd))

section BigSep
variable {M : Type} [URA M]

/-- A family over an image, read over the set itself. -/
theorem bigSep_along {I J : Type} [DecidableEq I] [DecidableEq J] {s : Finset I} {f : I → J} (hf : ∀ x ∈ s, ∀ y ∈ s, f x = f y → x = y)
    (Φ : J → sProp M) : bigSep (s.image f) Φ = bigSep s fun i => Φ (f i) := by
  induction s using Finset.induction_on with
  | empty => rw [Finset.image_empty, bigSep_empty, bigSep_empty]
  | insert a t ha ih =>
    rw [Finset.image_insert, bigSep_insert, bigSep_insert ha,
      ih fun x hx y hy => hf x (Finset.mem_insert_of_mem hx) y (Finset.mem_insert_of_mem hy)]
    intro h
    obtain ⟨y, hy, e⟩ := Finset.mem_image.mp h
    exact ha (hf y (Finset.mem_insert_of_mem hy) a (Finset.mem_insert_self _ _) e ▸ hy)

/-- What is held for every device is held for `c` and for its seven followers. -/
theorem bigSep_fwd (c : Dev nD) (Φ : Dev nD → sProp M) :
    bigSep Finset.univ Φ = iprop(Φ c ∗ bigSep (Finset.range 7) fun d => Φ (fwd c d)) := by
  rw [univ_eq_fwd c, bigSep_insert (by
    intro h; obtain ⟨d, hd, e⟩ := Finset.mem_image.mp h; exact fwd_ne c (Finset.mem_range.mp hd) e),
    bigSep_along fun x hx y hy e => fwd_inj c (Finset.mem_range.mp hx) (Finset.mem_range.mp hy) e]
  rfl

/-- A family over the seven distances, met in the opposite order. -/
theorem bigSep_reflect (Φ : ℕ → sProp M) :
    bigSep (Finset.range 7) Φ = bigSep (Finset.range 7) fun d => Φ (6 - d) := by
  have h : (Finset.range 7) = (Finset.range 7).image fun d => 6 - d := by decide
  conv_lhs => rw [h]
  exact bigSep_along (fun x hx y hy e => by
    have := Finset.mem_range.mp hx; have := Finset.mem_range.mp hy; have e' : 6 - x = 6 - y := e; omega) Φ

/-- The same for `c` and its seven predecessors. -/
theorem bigSep_bwd (c : Dev nD) (Φ : Dev nD → sProp M) :
    bigSep Finset.univ Φ = iprop(Φ c ∗ bigSep (Finset.range 7) fun d => Φ (bwd c d)) := by
  rw [bigSep_fwd c, bigSep_reflect, bigSep_congr fun d hd => by rw [← bwd_eq_fwd c (Finset.mem_range.mp hd)]]

end BigSep

/-! ## Blocks of rows and slots -/

theorem rows_inb (s : Dev nD) : ∀ a, (![32 * s.val, 0] : Fin 2 → ℕ) a + S32x256.size a ≤ S256x256.size a := by
  have := s.isLt; change s.val < 8 at this
  exact Fin.forall_fin_two.mpr ⟨show 32 * s.val + 32 ≤ 256 by omega, show 0 + 256 ≤ 256 by omega⟩
theorem slot1_inb (s : Dev nD) : ∀ a, (![s.val, 0, 0] : Fin 3 → ℕ) a + S1x32x256.size a ≤ S8x32x256.size a := by
  have := s.isLt; change s.val < 8 at this
  exact Fin.forall_fin_succ.mpr ⟨show s.val + 1 ≤ 8 by omega,
    Fin.forall_fin_two.mpr ⟨show 0 + 32 ≤ 32 by omega, show 0 + 256 ≤ 256 by omega⟩⟩
theorem slot2_inb (s : Dev nD) : ∀ a, (![s.val, 0, 0] : Fin 3 → ℕ) a + S1x32x512.size a ≤ S8x32x512.size a := by
  have := s.isLt; change s.val < 8 at this
  exact Fin.forall_fin_succ.mpr ⟨show s.val + 1 ≤ 8 by omega,
    Fin.forall_fin_two.mpr ⟨show 0 + 32 ≤ 32 by omega, show 0 + 512 ≤ 512 by omega⟩⟩

/-- Rows `32 s .. 32 s + 31` of the context: what the first exchange sends to device `s`. -/
abbrev rows (s : Dev nD) : Memref sig .tc .vmem S32x256 .bf16 :=
  (Memref.whole cc0_scratch2).slice (Rect.unit (s := S256x256) ![32 * s.val, 0] S32x256.size (rows_inb s)) (fun _ => rfl)
/-- Slot `s` of the first landing buffer: what device `s` sends lands there. -/
abbrev slot1 (s : Dev nD) : Memref sig .tc .vmem S32x256 .bf16 :=
  ((Memref.whole cc0_scratch5).slice (Rect.unit (s := S8x32x256) ![s.val, 0, 0] S1x32x256.size (slot1_inb s)) (fun _ => rfl)).squeeze
    S32x256 Facts₀.squeezes_S1x32x256_S32x256
/-- Slot `s` of the second landing buffer: device `s`'s finished block. -/
abbrev slot2 (s : Dev nD) : Memref sig .tc .vmem S32x512 .bf16 :=
  ((Memref.whole cc0_scratch6).slice (Rect.unit (s := S8x32x512) ![s.val, 0, 0] S1x32x512.size (slot2_inb s)) (fun _ => rfl)).squeeze
    S32x512 Facts₀.squeezes_S1x32x512_S32x512

theorem mem_rows {s : Dev nD} {i : S256x256.Idx} : i ∈ (rows s).view.set ↔ 32 * s.val ≤ (i 0).val ∧ (i 0).val < 32 * s.val + 32 := by
  rw [show (rows s).view.set = (Rect.unit (s := S256x256) ![32 * s.val, 0] S32x256.size (rows_inb s)).set from View.set_slice_whole ..,
    Rect.mem_set_unit]
  have := (i 1).isLt
  exact ⟨fun h => h 0, fun h => Fin.forall_fin_two.mpr ⟨h, ⟨Nat.zero_le _, by show (i 1).val < 0 + 256; change _ < 256 at this; omega⟩⟩⟩

theorem mem_slot1 {s : Dev nD} {i : S8x32x256.Idx} : i ∈ (slot1 s).view.set ↔ (i 0).val = s.val := by
  rw [show (slot1 s).view.set = (Rect.unit (s := S8x32x256) ![s.val, 0, 0] S1x32x256.size (slot1_inb s)).set from
      (View.set_reshape ..).trans (View.set_slice_whole ..), Rect.mem_set_unit]
  have h1 := (i 1).isLt; have h2 := (i 2).isLt
  refine ⟨fun h => ?_, fun h => Fin.forall_fin_succ.mpr ⟨⟨h ▸ le_refl _, ?_⟩, Fin.forall_fin_two.mpr ⟨⟨Nat.zero_le _, ?_⟩, ⟨Nat.zero_le _, ?_⟩⟩⟩⟩
  · have h0 : s.val ≤ (i 0).val ∧ (i 0).val < s.val + 1 := h 0
    omega
  · show (i 0).val < s.val + 1; omega
  · show (i 1).val < 0 + 32; change _ < 32 at h1; omega
  · show (i 2).val < 0 + 256; change _ < 256 at h2; omega

theorem mem_slot2 {s : Dev nD} {i : S8x32x512.Idx} : i ∈ (slot2 s).view.set ↔ (i 0).val = s.val := by
  rw [show (slot2 s).view.set = (Rect.unit (s := S8x32x512) ![s.val, 0, 0] S1x32x512.size (slot2_inb s)).set from
      (View.set_reshape ..).trans (View.set_slice_whole ..), Rect.mem_set_unit]
  have h1 := (i 1).isLt; have h2 := (i 2).isLt
  refine ⟨fun h => ?_, fun h => Fin.forall_fin_succ.mpr ⟨⟨h ▸ le_refl _, ?_⟩, Fin.forall_fin_two.mpr ⟨⟨Nat.zero_le _, ?_⟩, ⟨Nat.zero_le _, ?_⟩⟩⟩⟩
  · have h0 : s.val ≤ (i 0).val ∧ (i 0).val < s.val + 1 := h 0
    omega
  · show (i 0).val < s.val + 1; omega
  · show (i 1).val < 0 + 32; change _ < 32 at h1; omega
  · show (i 2).val < 0 + 512; change _ < 512 at h2; omega

/-! ### Where a view's element is -/

theorem rows_emb_val (s : Dev nD) (x : S32x256.Idx) :
    (((rows s).view.emb x : S256x256.Idx) 0).val = 32 * s.val + (x 0).val ∧ (((rows s).view.emb x : S256x256.Idx) 1).val = (x 1).val := by
  refine ⟨ValueKit.view_emb_slice_whole_unit_val cc0_scratch2 _ _ _ x 0, ?_⟩
  refine (ValueKit.view_emb_slice_whole_unit_val cc0_scratch2 _ _ _ x 1).trans ?_
  show 0 + _ = _; omega

theorem slot1_emb_val (s : Dev nD) (x : S32x256.Idx) :
    (((slot1 s).view.emb x : S8x32x256.Idx) 0).val = s.val ∧ (((slot1 s).view.emb x : S8x32x256.Idx) 1).val = (x 0).val
      ∧ (((slot1 s).view.emb x : S8x32x256.Idx) 2).val = (x 1).val := by
  have e : (slot1 s).view.emb x = ((View.whole cc0_scratch5).slice (Rect.unit (s := S8x32x256) ![s.val, 0, 0] S1x32x256.size (slot1_inb s))).emb
      (Fin.cons ⟨0, Nat.one_pos⟩ x) := by
    rw [← Shape.reshapeEquiv_cons_one (d := ![32, 256]) Facts₀.squeezes_S1x32x256_S32x256.numel_eq x]; rfl
  rw [e]
  refine ⟨(ValueKit.view_emb_slice_whole_unit_val cc0_scratch5 _ _ _ _ 0).trans ?_,
    (ValueKit.view_emb_slice_whole_unit_val cc0_scratch5 _ _ _ _ 1).trans ?_,
    (ValueKit.view_emb_slice_whole_unit_val cc0_scratch5 _ _ _ _ 2).trans ?_⟩
  · show s.val + 0 = _; omega
  · show 0 + (x 0).val = _; omega
  · show 0 + (x 1).val = _; omega

theorem slot2_emb_val (s : Dev nD) (x : S32x512.Idx) :
    (((slot2 s).view.emb x : S8x32x512.Idx) 0).val = s.val ∧ (((slot2 s).view.emb x : S8x32x512.Idx) 1).val = (x 0).val
      ∧ (((slot2 s).view.emb x : S8x32x512.Idx) 2).val = (x 1).val := by
  have e : (slot2 s).view.emb x = ((View.whole cc0_scratch6).slice (Rect.unit (s := S8x32x512) ![s.val, 0, 0] S1x32x512.size (slot2_inb s))).emb
      (Fin.cons ⟨0, Nat.one_pos⟩ x) := by
    rw [← Shape.reshapeEquiv_cons_one (d := ![32, 512]) Facts₀.squeezes_S1x32x512_S32x512.numel_eq x]; rfl
  rw [e]
  refine ⟨(ValueKit.view_emb_slice_whole_unit_val cc0_scratch6 _ _ _ _ 0).trans ?_,
    (ValueKit.view_emb_slice_whole_unit_val cc0_scratch6 _ _ _ _ 1).trans ?_,
    (ValueKit.view_emb_slice_whole_unit_val cc0_scratch6 _ _ _ _ 2).trans ?_⟩
  · show s.val + 0 = _; omega
  · show 0 + (x 0).val = _; omega
  · show 0 + (x 1).val = _; omega

/-! ### The blocks of each buffer are disjoint and cover it -/

theorem rows_disjoint (s s' : Dev nD) (h : s ≠ s') : Disjoint (rows s).view.set (rows s').view.set := by
  refine Finset.disjoint_left.mpr fun i hi hi' => h (Fin.ext ?_)
  have := mem_rows.mp hi; have := mem_rows.mp hi'; omega
/-- The device whose rows hold row `r`. -/
def rowDev (r : ℕ) (h : r < 256) : Dev nD := ⟨r / 32, (by omega : r / 32 < 8)⟩
theorem rowDev_val (r : ℕ) (h : r < 256) : (rowDev r h).val = r / 32 := rfl
theorem rowDev_mem (r : ℕ) (h : r < 256) : 32 * (rowDev r h).val ≤ r ∧ r < 32 * (rowDev r h).val + 32 := by
  rw [rowDev_val]; omega
theorem rows_cover : Finset.biUnion (β := S256x256.Idx) Finset.univ (fun s => (rows s).view.set) = Finset.univ :=
  Finset.eq_univ_iff_forall.mpr fun i => Finset.mem_biUnion.mpr ⟨rowDev (i 0).val (i 0).isLt, Finset.mem_univ _,
    mem_rows.mpr (rowDev_mem _ _)⟩
theorem slot1_disjoint (s s' : Dev nD) (h : s ≠ s') : Disjoint (slot1 s).view.set (slot1 s').view.set :=
  Finset.disjoint_left.mpr fun i hi hi' => h (Fin.ext ((mem_slot1.mp hi).symm.trans (mem_slot1.mp hi')))
theorem slot1_cover : Finset.biUnion (β := S8x32x256.Idx) Finset.univ (fun s => (slot1 s).view.set) = Finset.univ :=
  Finset.eq_univ_iff_forall.mpr fun i => Finset.mem_biUnion.mpr ⟨(⟨(i 0).val, (i 0).isLt⟩ : Dev nD), Finset.mem_univ _, mem_slot1.mpr rfl⟩
theorem slot2_disjoint (s s' : Dev nD) (h : s ≠ s') : Disjoint (slot2 s).view.set (slot2 s').view.set :=
  Finset.disjoint_left.mpr fun i hi hi' => h (Fin.ext ((mem_slot2.mp hi).symm.trans (mem_slot2.mp hi')))
theorem slot2_cover : Finset.biUnion (β := S8x32x512.Idx) Finset.univ (fun s => (slot2 s).view.set) = Finset.univ :=
  Finset.eq_univ_iff_forall.mpr fun i => Finset.mem_biUnion.mpr ⟨(⟨(i 0).val, (i 0).isLt⟩ : Dev nD), Finset.mem_univ _, mem_slot2.mpr rfl⟩

/-! ## What lands -/

/-- The first landing buffer of device `t`, complete: slot `o` holds rows `32 t ..` of device `o`'s context. -/
def land1 (C : Dev nD → S256x256.Idx → Elt F .bf16) (t : Dev nD) : S8x32x256.Idx → Elt F .bf16 := fun i =>
  C (i 0) (Fin.cons ⟨32 * t.val + (i 1).val, by
    have h := (i 1).isLt; have ht := t.isLt; change _ < 32 at h; change _ < 8 at ht; show _ < 256; omega⟩ (Fin.cons (i 2) finZeroElim))
/-- The second landing buffer, complete, the same on every device: slot `o` holds device `o`'s finished block. -/
def land2 (Q : Dev nD → S32x512.Idx → Elt F .bf16) : S8x32x512.Idx → Elt F .bf16 := fun i =>
  Q (i 0) (Fin.cons (i 1) (Fin.cons (i 2) finZeroElim))

/-- A copy of rows `32 t ..` of device `o`'s context into slot `o` leaves there what the complete buffer holds. -/
theorem write_slot1 (C : Dev nD → S256x256.Idx → Elt F .bf16) (o t : Dev nD) (fd : S8x32x256.Idx → Elt F .bf16)
    (i : S8x32x256.Idx) (hi : i ∈ (slot1 o).view.set) :
    (slot1 o).view.write (Elt F) fd ((rows t).view.read (Elt F) (C o)) Finset.univ i = land1 C t i := by
  obtain ⟨x, rfl⟩ := View.exists_emb_of_mem_set _ hi
  rw [View.write_emb_of_mem _ _ (Finset.mem_univ _)]
  obtain ⟨h0, h1, h2⟩ := slot1_emb_val o x
  obtain ⟨g0, g1⟩ := rows_emb_val t x
  show C o ((rows t).view.emb x) = land1 C t ((slot1 o).view.emb x)
  unfold land1
  have ho : ((slot1 o).view.emb x : S8x32x256.Idx) 0 = o := Fin.ext h0
  rw [ho]
  refine congrArg (C o) (funext (Fin.forall_fin_two.mpr ⟨Fin.ext ?_, Fin.ext ?_⟩))
  · rw [g0]; show _ = 32 * t.val + _; rw [h1]
  · rw [g1]; exact h2.symm

/-- Slot `o` of a complete second landing buffer, copied, is again slot `o` of it. -/
theorem write_slot2 (Q : Dev nD → S32x512.Idx → Elt F .bf16) (o : Dev nD) (fd : S8x32x512.Idx → Elt F .bf16)
    (i : S8x32x512.Idx) (hi : i ∈ (slot2 o).view.set) :
    (slot2 o).view.write (Elt F) fd ((slot2 o).view.read (Elt F) (land2 Q)) Finset.univ i = land2 Q i := by
  obtain ⟨x, rfl⟩ := View.exists_emb_of_mem_set _ hi
  rw [View.write_emb_of_mem _ _ (Finset.mem_univ _)]
  rfl

end Cert.KernelIdeal.Talk

end
-- ==== Proof.Protocol.lean ====
/-
  The exchange as a schedule of rounds: for every semaphore, who pays it, how much, and what is handed over with the payment.

  Barrier cell of `c`: seven units. The one paid by the device `e + 1` places after `c` hands `c` that device's slot `c` of
  both landing buffers, and that its two receive cells for `c` are open. So after its barrier wait `c` may write into the
  slots kept for it on all other devices.
  First receive cell `d` of `c`: paid by the copy from the device `d + 1` places before `c`; hands over `c`'s slot for that
  device, holding rows `32 c ..` of that device's context. First send cell `d` of `c`: the rows sent come back.
  Second receive cell `d` of `c`: the second slot for that device, holding its finished block. Second send cell `d`: the
  share of `c`'s own second slot that the copy read.
-/
module

public import proofs.«01_k».proof.Proof.Slots
public import Idealize.ShloMosaic.Lib.Rounds
public import Idealize.ShloMosaic.Lib.Rounds.Family
public import Idealize.ShloMosaic.Lib.Pipeline.Kit
public import Idealize.ShloMosaic.Lib.Pipeline.RegionTalk

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type}

/-- The pipeline's counters beside the exchange's, whose duties are numbered. -/
abbrev UU : Type := UR sig nD τ × Rounds.URounds (GSem nD τ sig) ℕ

local notation "𝕄" => MT nD τ sig Unit (Elt F) ℕ UU ℕ

abbrev EP : Emb (UR sig nD τ) (MT nD τ sig Unit (Elt F) ℕ UU ℕ) := embL
abbrev ER : Emb (Rounds.URounds (GSem nD τ sig) ℕ) (MT nD τ sig Unit (Elt F) ℕ UU ℕ) := embR

/-! ## Semaphores and cells -/

abbrev barS : Sem sig := ⟨0, by decide⟩
def sS1 (d : ℕ) : DmaSem sig := ⟨(6 + d) % 34, Nat.mod_lt _ (by decide)⟩
def sR1 (d : ℕ) : DmaSem sig := ⟨(13 + d) % 34, Nat.mod_lt _ (by decide)⟩
def sS2 (d : ℕ) : DmaSem sig := ⟨(20 + d) % 34, Nat.mod_lt _ (by decide)⟩
def sR2 (d : ℕ) : DmaSem sig := ⟨(27 + d) % 34, Nat.mod_lt _ (by decide)⟩

abbrev barCell (c : Dev nD) : GSem nD τ sig := ((c : Thread nD τ), .reg barS)
abbrev s1Cell (c : Dev nD) (d : ℕ) : GSem nD τ sig := ((c : Thread nD τ), .dma (sS1 d))
abbrev r1Cell (c : Dev nD) (d : ℕ) : GSem nD τ sig := ((c : Thread nD τ), .dma (sR1 d))
abbrev s2Cell (c : Dev nD) (d : ℕ) : GSem nD τ sig := ((c : Thread nD τ), .dma (sS2 d))
abbrev r2Cell (c : Dev nD) (d : ℕ) : GSem nD τ sig := ((c : Thread nD τ), .dma (sR2 d))

/-- The units of one copy of the first exchange, and of the second. -/
abbrev N1 : ℕ := (slot1 0).view.dmaCredit
abbrev N2 : ℕ := (slot2 0).view.dmaCredit
theorem N1_pos : 0 < N1 := View.dmaCredit_pos _ (by decide)
theorem N2_pos : 0 < N2 := View.dmaCredit_pos _ (by decide)

/-! ## What is held of the travelling buffers -/

/-- Device `c`'s rows for device `s`, its first slot for `s`, its second slot for `s`, at given contents of the buffer. -/
abbrev rowsPts (c s : Dev nD) (f : S256x256.Idx → Elt F .bf16) : sProp 𝕄 :=
  (rows s).view.loc (c : Thread nD τ) ↦[(rows s).view.set]{fullShare} f
abbrev slot1Pts (c s : Dev nD) (f : S8x32x256.Idx → Elt F .bf16) : sProp 𝕄 :=
  (slot1 s).view.loc (c : Thread nD τ) ↦[(slot1 s).view.set]{fullShare} f
abbrev slot2Pts (c s : Dev nD) (q : PosShare TreeShare) (f : S8x32x512.Idx → Elt F .bf16) : sProp 𝕄 :=
  (slot2 s).view.loc (c : Thread nD τ) ↦[(slot2 s).view.set]{q} f

/-! ## The schedule -/

section Sched
/- The context of every device and the finished block of every device: the contents that the copies carry. -/
variable (C : Dev nD → S256x256.Idx → Elt F .bf16) (Q : Dev nD → S32x512.Idx → Elt F .bf16)

/-- What the device `e + 1` places after `c` hands `c` at the barrier, for each exchange. -/
def got1 (c : Dev nD) (e : ℕ) : sProp 𝕄 := iprop((∃ f, slot1Pts (fwd c e) c f) ∗ reached ER (r1Cell (fwd c e) e) 0)
def got2 (c : Dev nD) (e : ℕ) : sProp 𝕄 := iprop((∃ f, slot2Pts (fwd c e) c fullShare f) ∗ reached ER (r2Cell (fwd c e) e) 0)
def barPay (c : Dev nD) (e : ℕ) : sProp 𝕄 := iprop(got1 (F := F) c e ∗ got2 (F := F) c e)
def s1Pay (c : Dev nD) (d : ℕ) : sProp 𝕄 := rowsPts c (fwd c d) (C c)
def r1Pay (c : Dev nD) (d : ℕ) : sProp 𝕄 := slot1Pts c (bwd c d) (land1 C c)
def s2Pay (c : Dev nD) (d : ℕ) : sProp 𝕄 := slot2Pts c c (shareTokN fullShare d) (land2 Q)
def r2Pay (c : Dev nD) (d : ℕ) : sProp 𝕄 := slot2Pts c (bwd c d) fullShare (land2 Q)

/-- What comes with a payment to DMA semaphore number `s` of device `c`. -/
def dmaPay (c : Dev nD) (s : ℕ) : sProp 𝕄 :=
  if s < 13 then s1Pay C c (s - 6) else if s < 20 then r1Pay C c (s - 13) else if s < 27 then s2Pay Q c (s - 20) else r2Pay Q c (s - 27)
/-- The duties of a cell in round 0, and what one payment is worth. -/
def dutiesOf : SemLoc sig → Finset ℕ
  | .reg _ => Finset.range 7
  | .dma s => if 6 ≤ s.val then {0} else ∅
def amountOf : SemLoc sig → ℕ
  | .reg _ => 1
  | .dma s => if s.val < 20 then N1 else N2
def payOf (c : Dev nD) (d : ℕ) : SemLoc sig → sProp 𝕄
  | .reg _ => barPay c d
  | .dma s => dmaPay C Q c s.val

theorem amountOf_pos : ∀ s : SemLoc sig, 0 < amountOf s
  | .reg _ => Nat.one_pos
  | .dma s => by dsimp only [amountOf]; split; exacts [N1_pos, N2_pos]

/-- One round per cell. -/
def talkRd : Rounds.Schedule (GSem nD τ sig) ℕ 𝕄 where
  duties g r := if r = 0 ∧ g.1.2 = .tc then dutiesOf g.2 else ∅
  unitless _ := False
  amount g _ _ := amountOf g.2
  payload g _ d := payOf C Q g.1.1 d g.2
  amount_pos g _ _ _ := amountOf_pos g.2

instance talkRd_storable (g : GSem nD τ sig) (r : ℕ) (d : ℕ) : BI.Storable (upEmb : UEmb _ 𝕄) ((talkRd C Q).payload g r d) := by
  show BI.Storable upEmb (payOf C Q g.1.1 d g.2)
  cases g.2 with
  | reg _ => show BI.Storable upEmb (barPay g.1.1 d); unfold barPay got1 got2; infer_instance
  | dma s =>
    show BI.Storable upEmb (dmaPay C Q g.1.1 s.val)
    unfold dmaPay s1Pay r1Pay s2Pay r2Pay
    (repeat' split) <;> infer_instance

theorem duties_later (g : GSem nD τ sig) : ∀ r, 1 ≤ r → (talkRd C Q).duties g r = ∅ :=
  fun r hr => if_neg fun h => absurd h.1 (Nat.one_le_iff_ne_zero.mp hr)
theorem duties_zero (c : Dev nD) (s : SemLoc sig) : (talkRd C Q).duties ((c : Thread nD τ), s) 0 = dutiesOf s := by
  dsimp only [talkRd]; exact if_pos ⟨rfl, rfl⟩
theorem amount_eq (c : Dev nD) (s : SemLoc sig) (r d : ℕ) : (talkRd C Q).amount ((c : Thread nD τ), s) r d = amountOf s := rfl

theorem sS1_val {d : ℕ} (h : d < 7) : (sS1 d).val = 6 + d := Nat.mod_eq_of_lt (by omega)
theorem sR1_val {d : ℕ} (h : d < 7) : (sR1 d).val = 13 + d := Nat.mod_eq_of_lt (by omega)
theorem sS2_val {d : ℕ} (h : d < 7) : (sS2 d).val = 20 + d := Nat.mod_eq_of_lt (by omega)
theorem sR2_val {d : ℕ} (h : d < 7) : (sR2 d).val = 27 + d := Nat.mod_eq_of_lt (by omega)

theorem duties_bar (c : Dev nD) : (talkRd C Q).duties (barCell c) 0 = Finset.range 7 := duties_zero C Q c _
theorem duties_s1 (c : Dev nD) {d : ℕ} (h : d < 7) : (talkRd C Q).duties (s1Cell c d) 0 = {0} := by
  rw [duties_zero]; exact if_pos (by rw [sS1_val h]; omega)
theorem duties_r1 (c : Dev nD) {d : ℕ} (h : d < 7) : (talkRd C Q).duties (r1Cell c d) 0 = {0} := by
  rw [duties_zero]; exact if_pos (by rw [sR1_val h]; omega)
theorem duties_s2 (c : Dev nD) {d : ℕ} (h : d < 7) : (talkRd C Q).duties (s2Cell c d) 0 = {0} := by
  rw [duties_zero]; exact if_pos (by rw [sS2_val h]; omega)
theorem duties_r2 (c : Dev nD) {d : ℕ} (h : d < 7) : (talkRd C Q).duties (r2Cell c d) 0 = {0} := by
  rw [duties_zero]; exact if_pos (by rw [sR2_val h]; omega)

theorem amount_s1 (c : Dev nD) {d : ℕ} (h : d < 7) (r e : ℕ) : (talkRd C Q).amount (s1Cell c d) r e = N1 :=
  if_pos (by rw [sS1_val h]; omega)
theorem amount_r1 (c : Dev nD) {d : ℕ} (h : d < 7) (r e : ℕ) : (talkRd C Q).amount (r1Cell c d) r e = N1 :=
  if_pos (by rw [sR1_val h]; omega)
theorem amount_s2 (c : Dev nD) {d : ℕ} (h : d < 7) (r e : ℕ) : (talkRd C Q).amount (s2Cell c d) r e = N2 :=
  if_neg (by rw [sS2_val h]; omega)
theorem amount_r2 (c : Dev nD) {d : ℕ} (h : d < 7) (r e : ℕ) : (talkRd C Q).amount (r2Cell c d) r e = N2 :=
  if_neg (by rw [sR2_val h]; omega)

theorem expect_bar (c : Dev nD) : (talkRd C Q).expect (barCell c) 0 = 7 := by
  unfold Schedule.expect Schedule.amountOf; rw [duties_bar]
  exact (Finset.sum_const_nat fun _ _ => rfl).trans (by rw [Finset.card_range])
theorem expect_s1 (c : Dev nD) {d : ℕ} (h : d < 7) : (talkRd C Q).expect (s1Cell c d) 0 = N1 := by
  unfold Schedule.expect Schedule.amountOf; rw [duties_s1 C Q c h, Finset.sum_singleton, amount_s1 C Q c h]
theorem expect_r1 (c : Dev nD) {d : ℕ} (h : d < 7) : (talkRd C Q).expect (r1Cell c d) 0 = N1 := by
  unfold Schedule.expect Schedule.amountOf; rw [duties_r1 C Q c h, Finset.sum_singleton, amount_r1 C Q c h]
theorem expect_s2 (c : Dev nD) {d : ℕ} (h : d < 7) : (talkRd C Q).expect (s2Cell c d) 0 = N2 := by
  unfold Schedule.expect Schedule.amountOf; rw [duties_s2 C Q c h, Finset.sum_singleton, amount_s2 C Q c h]
theorem expect_r2 (c : Dev nD) {d : ℕ} (h : d < 7) : (talkRd C Q).expect (r2Cell c d) 0 = N2 := by
  unfold Schedule.expect Schedule.amountOf; rw [duties_r2 C Q c h, Finset.sum_singleton, amount_r2 C Q c h]

theorem payload_bar (c : Dev nD) (d : ℕ) : (talkRd C Q).payload (barCell c) 0 d = barPay c d := rfl
theorem payload_s1 (c : Dev nD) {d : ℕ} (h : d < 7) (e : ℕ) : (talkRd C Q).payload (s1Cell c d) 0 e = s1Pay C c d := by
  show dmaPay C Q c (sS1 d).val = _
  rw [sS1_val h]; unfold dmaPay; rw [if_pos (by omega), Nat.add_sub_cancel_left]
theorem payload_r1 (c : Dev nD) {d : ℕ} (h : d < 7) (e : ℕ) : (talkRd C Q).payload (r1Cell c d) 0 e = r1Pay C c d := by
  show dmaPay C Q c (sR1 d).val = _
  rw [sR1_val h]; unfold dmaPay; rw [if_neg (by omega), if_pos (by omega), Nat.add_sub_cancel_left]
theorem payload_s2 (c : Dev nD) {d : ℕ} (h : d < 7) (e : ℕ) : (talkRd C Q).payload (s2Cell c d) 0 e = s2Pay Q c d := by
  show dmaPay C Q c (sS2 d).val = _
  rw [sS2_val h]; unfold dmaPay; rw [if_neg (by omega), if_neg (by omega), if_pos (by omega), Nat.add_sub_cancel_left]
theorem payload_r2 (c : Dev nD) {d : ℕ} (h : d < 7) (e : ℕ) : (talkRd C Q).payload (r2Cell c d) 0 e = r2Pay Q c d := by
  show dmaPay C Q c (sR2 d).val = _
  rw [sR2_val h]; unfold dmaPay; rw [if_neg (by omega), if_neg (by omega), if_neg (by omega), Nat.add_sub_cancel_left]

end Sched

/-! ## What each device owes, and in what order it may wait -/

/-- What `c` still owes once it has given its first `a` signals, `b` copies of the first exchange, `e` of the second. -/
def owed (c : Dev nD) (a b e : ℕ) : CellTallies nD τ sig Unit :=
  (∑ d ∈ Finset.Ico a 7, tallyAt (barCell (fwd c d)) () 1) + (∑ d ∈ Finset.Ico b 7, tallyAt (r1Cell (fwd c d) d) () N1)
    + ∑ d ∈ Finset.Ico e 7, tallyAt (r2Cell (fwd c d) d) () N2

theorem owed_bar (c : Dev nD) {a : ℕ} (h : a < 7) (b e : ℕ) :
    owed c a b e = owed c (a + 1) b e + tallyAt (barCell (fwd c a)) () 1 := by
  unfold owed; rw [Finset.sum_eq_sum_Ico_succ_bot h]; ac_rfl
theorem owed_r1 (c : Dev nD) {b : ℕ} (h : b < 7) (a e : ℕ) :
    owed c a b e = owed c a (b + 1) e + tallyAt (r1Cell (fwd c b) b) () N1 := by
  unfold owed; rw [Finset.sum_eq_sum_Ico_succ_bot (a := b) h]; ac_rfl
theorem owed_r2 (c : Dev nD) {e : ℕ} (h : e < 7) (a b : ℕ) :
    owed c a b e = owed c a b (e + 1) + tallyAt (r2Cell (fwd c e) e) () N2 := by
  unfold owed; rw [Finset.sum_eq_sum_Ico_succ_bot (a := e) h]; ac_rfl
theorem owed_done (c : Dev nD) : owed c 7 7 7 = 0 := by
  unfold owed; rw [Finset.Ico_self, Finset.sum_empty, Finset.sum_empty, Finset.sum_empty, add_zero, add_zero]

theorem sum_tally_pos {n : ℕ} {f : ℕ → GSem nD τ sig} {k : ℕ} {g : GSem nD τ sig} {u : Unit}
    (h : 0 < (∑ d ∈ Finset.Ico n 7, tallyAt (f d) () k) g u) : ∃ d, n ≤ d ∧ d < 7 ∧ g = f d := by
  by_contra hc
  rw [Finset.sum_apply, Finsupp.finsetSum_apply, Finset.sum_eq_zero fun d hd => ?_] at h
  · exact absurd h (Nat.lt_irrefl 0)
  · rw [tallyAt_apply, if_neg fun e => hc ⟨d, (Finset.mem_Ico.mp hd).1, (Finset.mem_Ico.mp hd).2, e.1⟩]

/-- Whatever `c` owes, it owes on one of these cells. -/
theorem owed_pos {c : Dev nD} {a b e : ℕ} {g : GSem nD τ sig} {u : Unit} (h : 0 < owed c a b e g u) :
    (∃ d, a ≤ d ∧ d < 7 ∧ g = barCell (fwd c d)) ∨ (∃ d, b ≤ d ∧ d < 7 ∧ g = r1Cell (fwd c d) d)
      ∨ ∃ d, e ≤ d ∧ d < 7 ∧ g = r2Cell (fwd c d) d := by
  have hs {A B : CellTallies nD τ sig Unit} (h : 0 < (A + B) g u) : 0 < A g u ∨ 0 < B g u := by
    have h' : 0 < A g u + B g u := h
    omega
  rcases hs h with h | h
  · rcases hs h with h | h
    · exact .inl (sum_tally_pos h)
    · exact .inr (.inl (sum_tally_pos h))
  · exact .inr (.inr (sum_tally_pos h))

def L (g : GSem nD τ sig) : Finset Unit := if g.1.2 = .tc then {()} else ∅
/-- Barrier cells at level 1, first receive cells at 2, second receive cells at 3, the rest at 0. -/
def lvOf : SemLoc sig → ℕ
  | .reg _ => 1
  | .dma s => if s.val < 13 then 0 else if s.val < 20 then 2 else if s.val < 27 then 0 else 3
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_r1 {d : ℕ} (h : d < 7) : lvOf (.dma (sR1 d)) = 2 := by
  unfold lvOf; dsimp only; rw [sR1_val h, if_neg (by omega), if_pos (by omega)]
theorem lv_r2 {d : ℕ} (h : d < 7) : lvOf (.dma (sR2 d)) = 3 := by
  unfold lvOf; dsimp only; rw [sR2_val h, if_neg (by omega), if_neg (by omega), if_neg (by omega)]

/-- Having signalled, a device may wait on its barrier cell while it owes its copies; -/
theorem mayWait_bar (c : Dev nD) (b e : ℕ) : (levAts L lv : sProp 𝕄) ⊢ MayWait (c : Thread nD τ) (.reg barS) () (owed c 7 b e) :=
  MayOwe.of_cut (L := L) (lev := lv) 1 (fun p hp => by rw [Finset.mem_singleton.mp hp]; exact mem_L ..)
    (fun g u hg => by
      rcases owed_pos hg with ⟨d, _, _, rfl⟩ | ⟨d, _, _, rfl⟩ | ⟨d, _, _, rfl⟩ <;> exact mem_L ..)
    (fun p hp => by rw [Finset.mem_singleton.mp hp]; exact le_refl 1)
    (fun g u hg => by
      rcases owed_pos hg with ⟨d, h1, h2, rfl⟩ | ⟨d, _, h, rfl⟩ | ⟨d, _, h, rfl⟩
      · omega
      · show 1 < lvOf _; rw [lv_r1 h]; decide
      · show 1 < lvOf _; rw [lv_r2 h]; decide)

/-- and on its first receive cells while it owes the copies of the second exchange. -/
theorem mayWait_r1 (c : Dev nD) {d : ℕ} (hd : d < 7) (e : ℕ) :
    (levAts L lv : sProp 𝕄) ⊢ MayWait (c : Thread nD τ) (.dma (sR1 d)) () (owed c 7 7 e) :=
  MayOwe.of_cut (L := L) (lev := lv) 2 (fun p hp => by rw [Finset.mem_singleton.mp hp]; exact mem_L ..)
    (fun g u hg => by
      rcases owed_pos hg with ⟨d, _, _, rfl⟩ | ⟨d, _, _, rfl⟩ | ⟨d, _, _, rfl⟩ <;> exact mem_L ..)
    (fun p hp => by rw [Finset.mem_singleton.mp hp]; show lvOf _ ≤ 2; rw [lv_r1 hd])
    (fun g u hg => by
      rcases owed_pos hg with ⟨d, h1, h2, rfl⟩ | ⟨d, h1, h2, rfl⟩ | ⟨d, _, h, rfl⟩
      · omega
      · omega
      · show 2 < lvOf _; rw [lv_r2 h]; decide)

/-! ## The persistent facts a device works with -/

section Records
variable (C : Dev nD → S256x256.Idx → Elt F .bf16) (Q : Dev nD → S32x512.Idx → Elt F .bf16)

/-- At distance `d`: the cells of the device there that `c` pays, `c`'s own four cells, and that each is open. -/
def recAt (K : GSem nD τ sig → ℕ) (c : Dev nD) (d : ℕ) : sProp 𝕄 :=
  iprop(cellInv ER (talkRd C Q) (K (barCell (fwd c d))) (barCell (fwd c d)) ∗ reached ER (barCell (fwd c d)) 0
    ∗ cellInv ER (talkRd C Q) (K (r1Cell (fwd c d) d)) (r1Cell (fwd c d) d)
    ∗ cellInv ER (talkRd C Q) (K (r2Cell (fwd c d) d)) (r2Cell (fwd c d) d)
    ∗ cellInv ER (talkRd C Q) (K (s1Cell c d)) (s1Cell c d) ∗ reached ER (s1Cell c d) 0
    ∗ cellInv ER (talkRd C Q) (K (r1Cell c d)) (r1Cell c d) ∗ reached ER (r1Cell c d) 0
    ∗ cellInv ER (talkRd C Q) (K (s2Cell c d)) (s2Cell c d) ∗ reached ER (s2Cell c d) 0
    ∗ cellInv ER (talkRd C Q) (K (r2Cell c d)) (r2Cell c d) ∗ reached ER (r2Cell c d) 0)

instance recAt_persistent (K : GSem nD τ sig → ℕ) (c : Dev nD) (d : ℕ) : BI.Persistent (recAt C Q K c d) := by
  unfold recAt; infer_instance

def records (K : GSem nD τ sig → ℕ) (c : Dev nD) : sProp 𝕄 :=
  iprop(cellInv ER (talkRd C Q) (K (barCell c)) (barCell c) ∗ levAts L lv ∗ bigSep (Finset.range 7) (recAt C Q K c))

instance records_persistent (K : GSem nD τ sig → ℕ) (c : Dev nD) : BI.Persistent (records C Q K c) := by
  unfold records; infer_instance

theorem records_at (K : GSem nD τ sig → ℕ) (c : Dev nD) {d : ℕ} (h : d < 7) : records C Q K c ⊢ recAt C Q K c d := by
  unfold records
  iintro ⟨-, -, H⟩
  have e : bigSep (Finset.range 7) (recAt C Q K c) ⊢ recAt C Q K c d := bigSep_elim (Finset.mem_range.mpr h)
  iapply e $$ H

end Records

end Cert.KernelIdeal.Talk

end
-- ==== Proof.Steps.lean ====
/-
  One step of the exchange at a time: a barrier signal, the barrier wait, a copy of either exchange, and the wait on each
  kind of cell. A step takes the first member off a family indexed by the distances still to be served and adds one to
  the family of those served.
-/
module

public import proofs.«01_k».proof.Proof.Protocol

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F] [Named F]

local notation "𝕄" => MT nD τ sig Unit (Elt F) ℕ UU ℕ

abbrev 𝒱₀ : Variants := Variants.none

/-- A device's program run to the assertion `Kt`. -/
abbrev wpc (c : Dev nD) {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-- What a device owes, whatever it has waited on. -/
def owesE (c : Dev nD) (O : CellTallies nD τ sig Unit) : sProp 𝕄 := iprop(∃ W, owes (c : Thread nD τ) O W)

section Peel
variable {M : Type} [URA M]
theorem peel {n : ℕ} (h : n < 7) (Φ : ℕ → sProp M) : bigSep (Finset.Ico n 7) Φ = iprop(Φ n ∗ bigSep (Finset.Ico (n + 1) 7) Φ) :=
  bigSep_Ico_succ_bot h Φ
theorem grow (n : ℕ) (Φ : ℕ → sProp M) : bigSep (Finset.range (n + 1)) Φ = iprop(Φ n ∗ bigSep (Finset.range n) Φ) :=
  bigSep_range_succ n Φ
theorem grow_zero (Φ : ℕ → sProp M) : (emp : sProp M) ⊢ bigSep (Finset.range 0) Φ := by
  rw [Finset.range_zero, bigSep_empty]; exact BI.Entails.refl _
end Peel

variable (C : Dev nD → S256x256.Idx → Elt F .bf16) (Q : Dev nD → S32x512.Idx → Elt F .bf16)

/-! ## What each step consumes and leaves -/

/-- To signal the device at distance `d`: the right to, and the two slots kept for it. -/
def giveB (c : Dev nD) (d : ℕ) : sProp 𝕄 :=
  iprop(dutyTok ER (barCell (fwd c d)) 0 (6 - d) ∗ (∃ f, slot1Pts c (fwd c d) f) ∗ ∃ f, slot2Pts c (fwd c d) fullShare f)
/-- To copy to it in the first exchange: the rights to both semaphores' payments, the rows, and what it handed over. -/
def give1 (c : Dev nD) (d : ℕ) : sProp 𝕄 :=
  iprop((dutyTok ER (s1Cell c d) 0 0 ∗ dutyTok ER (r1Cell (fwd c d) d) 0 0) ∗ rowsPts c (fwd c d) (C c) ∗ got1 c d)
/-- To copy to it in the second. -/
def give2 (c : Dev nD) (d : ℕ) : sProp 𝕄 :=
  iprop((dutyTok ER (s2Cell c d) 0 0 ∗ dutyTok ER (r2Cell (fwd c d) d) 0 0) ∗ slot2Pts c c (shareTokN fullShare d) (land2 Q) ∗ got2 c d)
/-- To wait on each kind of cell: the units due on it and the place in its rounds. -/
def wait1 (c : Dev nD) (d : ℕ) : sProp 𝕄 := iprop(cred (tallyAt (r1Cell c d) () N1) ∗ atPos ER (r1Cell c d) 0 ∅ 0)
def wait2 (c : Dev nD) (d : ℕ) : sProp 𝕄 := iprop(cred (tallyAt (r2Cell c d) () N2) ∗ atPos ER (r2Cell c d) 0 ∅ 0)
def cred1 (c : Dev nD) (d : ℕ) : sProp 𝕄 := cred (tallyAt (s1Cell c d) () N1)
def cred2 (c : Dev nD) (d : ℕ) : sProp 𝕄 := cred (tallyAt (s2Cell c d) () N2)
def waitS1 (c : Dev nD) (d : ℕ) : sProp 𝕄 := iprop(cred1 (F := F) c d ∗ atPos ER (s1Cell c d) 0 ∅ 0)
def waitS2 (c : Dev nD) (d : ℕ) : sProp 𝕄 := iprop(cred2 (F := F) c d ∗ atPos ER (s2Cell c d) 0 ∅ 0)
/-- After the wait: the round is over and what came with it is held. -/
def done1 (c : Dev nD) (d : ℕ) : sProp 𝕄 := iprop(atPos ER (r1Cell c d) 1 ∅ 0 ∗ r1Pay C c d)
def done2 (c : Dev nD) (d : ℕ) : sProp 𝕄 := iprop(atPos ER (r2Cell c d) 1 ∅ 0 ∗ r2Pay Q c d)
def doneS1 (c : Dev nD) (d : ℕ) : sProp 𝕄 := iprop(atPos ER (s1Cell c d) 1 ∅ 0 ∗ s1Pay C c d)
def doneS2 (c : Dev nD) (d : ℕ) : sProp 𝕄 := iprop(atPos ER (s2Cell c d) 1 ∅ 0 ∗ s2Pay Q c d)

variable (K : GSem nD τ sig → ℕ) (c : Dev nD) {α : Type}

/-! ## The barrier -/

/-- A signal to the device at distance `n`. -/
theorem step_signal (n : ℕ) (hn : n < 7) {dst : Dev nD} (hd : dst = fwd c n) {sem : Sem sig} (hs : sem = barS) {k' : ℕ} (hk' : k' = 1)
    {b e : ℕ} {k : PUnit → Prog (TpuEff nD τ sig (Elt F) Λ₀ .tc) α} {Kt : α → sProp 𝕄} :
    iprop(records C Q K c ∗ owesE c (owed c n b e) ∗ bigSep (Finset.Ico n 7) (giveB c))
      ⊢ iprop(((owesE c (owed c (n + 1) b e) ∗ bigSep (Finset.Ico (n + 1) 7) (giveB c)) -∗ wpc c (k ⟨⟩) Kt)
          -∗ wpc c (.op (.semSignal (dst : Thread nD τ) sem k') k) Kt) := by
  subst hd hs hk'
  rw [peel hn]
  iintro ⟨#HR, HO, HG, HGs⟩
  iintro Hk
  ihave Hrec := (records_at C Q K c hn) $$ HR
  unfold recAt giveB owesE
  icases Hrec with ⟨#Hi, #Hre, -⟩
  ihave Hrec' := (records_at C Q K c (show 6 - n < 7 by omega)) $$ HR
  unfold recAt
  icases Hrec' with ⟨-, -, -, -, -, -, -, #Hr1, -, -, -, #Hr2⟩
  icases HO with ⟨%W, HO⟩
  icases HG with ⟨Ht, H1, H2⟩
  iapply (Rounds.wp_signal 𝒱₀ ER (talkRd C Q) (c : Thread nD τ) none (dst := (fwd c n : Thread nD τ)) (sem := barS) (r := 0) (d := 6 - n)
      (κ := K (barCell (fwd c n))) (k' := 1)
      (by rw [duties_bar]; exact Finset.mem_range.mpr (by omega)) rfl () (owed c (n + 1) b e) (owed_bar c hn b e) (W := W)) $$ [HO Ht H1 H2]
  · isplitr; · iexact Hi
    isplitl [HO]; · iexact HO
    isplitl [Ht]; · iexact Ht
    isplitl
    · rw [payload_bar]; unfold barPay got1 got2; rw [fwd_fwd c hn]
      isplitl [H1]
      · isplitl [H1]; · iexact H1
        iexact Hr1
      · isplitl [H2]; · iexact H2
        iexact Hr2
    · iexact Hre
  iintro HO
  iapply Hk
  isplitl [HO]; · iexists W; iexact HO
  iexact HGs

/-- The wait for all seven: the slots kept for `c` on the other devices. -/
theorem step_barrier {sem : Sem sig} (hs : sem = barS) {k' : ℕ} (hk' : k' = 7)
    {b e : ℕ} {k : PUnit → Prog (TpuEff nD τ sig (Elt F) Λ₀ .tc) α} {Kt : α → sProp 𝕄} :
    iprop(records C Q K c ∗ owesE c (owed c 7 b e) ∗ cred (tallyAt (barCell c) () 7) ∗ atPos ER (barCell c) 0 ∅ 0)
      ⊢ iprop(((owesE c (owed c 7 b e) ∗ atPos ER (barCell c) 1 ∅ 0 ∗ bigSep (Finset.range 7) (got1 c) ∗ bigSep (Finset.range 7) (got2 c))
            -∗ wpc c (k ⟨⟩) Kt)
          -∗ wpc c (.op (.semWait sem k') k) Kt) := by
  subst hs hk'
  iintro ⟨#HR, HO, Hc, Ha⟩
  iintro Hk
  unfold records owesE
  icases HR with ⟨#Hi, #Hlev, -⟩
  icases HO with ⟨%W, HO⟩
  iapply (Rounds.wp_wait_rest_token 𝒱₀ ER (talkRd C Q) (c : Thread nD τ) none (κ := K (barCell c))
      (wpE_semWait_eq 𝒱₀ (c : Thread nD τ) none Set.univ) (Set.mem_univ _) () (O := owed c 7 b e) (W := W) (R := 0) (m := 0) (T := ∅)
      ((Nat.zero_add 7).trans (expect_bar C Q c).symm)) $$ [Hc HO Ha]
  · isplitr; · iexact Hi
    isplitl [Hc]; · iexact Hc
    isplitl [HO]; · iexact HO
    isplitr; · iapply (mayWait_bar c b e); iexact Hlev
    iexact Ha
  rw [Finset.sdiff_empty, duties_bar, show bigSep (Finset.range 7) (fun d => (talkRd C Q).payload (barCell c) 0 d)
    = iprop(bigSep (Finset.range 7) (got1 (F := F) c) ∗ bigSep (Finset.range 7) (got2 (F := F) c)) from bigSep_sep _ _ _]
  iintro ⟨HO, Ha, -, Hp1, Hp2⟩
  iapply Hk
  isplitl [HO]; · iexists _; iexact HO
  isplitl [Ha]; · iexact Ha
  isplitl [Hp1]; · iexact Hp1
  iexact Hp2

/-! ## The copies -/

/-- The copy of the first exchange to the device at distance `n`. -/
theorem step_send1 (n : ℕ) (hn : n < 7) {src dst : Memref sig .tc .vmem S32x256 .bf16} (hsrc : src = rows (fwd c n)) (hdst : dst = slot1 c)
    {d' : Dev nD} (hd : d' = fwd c n) {sA sB : DmaSem sig} (hA : sA = sS1 n) (hB : sB = sR1 n) {hsc h1 h2 h3}
    {a e : ℕ} {k : PUnit → Prog (TpuEff nD τ sig (Elt F) Λ₀ .tc) α} {Kt : α → sProp 𝕄} :
    iprop(records C Q K c ∗ owesE c (owed c a n e) ∗ bigSep (Finset.Ico n 7) (give1 C c) ∗ bigSep (Finset.range n) (cred1 c))
      ⊢ iprop(((owesE c (owed c a (n + 1) e) ∗ bigSep (Finset.Ico (n + 1) 7) (give1 C c) ∗ bigSep (Finset.range (n + 1)) (cred1 c)) -∗ wpc c (k ⟨⟩) Kt)
          -∗ wpc c (.op (.enqueueDma src (.remote (d' : Thread nD τ) dst (.dma sA) hsc) (.dma sB) h1 h2 h3) k) Kt) := by
  subst hsrc hdst hd hA hB
  rw [peel hn, grow]
  iintro ⟨#HR, HO, ⟨HG, HGs⟩, Hcr⟩
  iintro Hk
  ihave Hrec := (records_at C Q K c hn) $$ HR
  unfold recAt give1 got1 owesE
  icases Hrec with ⟨-, -, #Hit, -, #His, #Hrs, -⟩
  icases HO with ⟨%W, HO⟩
  icases HG with ⟨⟨Ht1, Ht2⟩, Hrow, ⟨%f, Hslot⟩, #Hrt⟩
  iapply (Rounds.wp_send_pointsTo 𝒱₀ ER (talkRd C Q) (c : Thread nD τ) none (c' := (fwd c n : Thread nD τ)) (src := rows (fwd c n)) (dst := slot1 c)
      (sS := .dma (sS1 n)) (sem := .dma (sR1 n)) (q := fullShare) (fs := C c) (κ₁ := K (s1Cell c n)) (κ₂ := K (r1Cell (fwd c n) n))
      (r₁ := 0) (r₂ := 0) (d₁ := 0) (d₂ := 0) (fd := f)
      (by rw [duties_s1 C Q c hn]; exact Finset.mem_singleton_self _) (by rw [duties_r1 C Q (fwd c n) hn]; exact Finset.mem_singleton_self _)
      () () N1 rfl (amount_s1 C Q c hn 0 0) (amount_r1 C Q (fwd c n) hn 0 0) (owed c a (n + 1) e) (owed_r1 c hn a e) (W := W)
      (by rw [payload_s1 C Q c hn]; exact BI.Entails.refl _)
      (by
        rw [payload_r1 C Q (fwd c n) hn]; unfold r1Pay; rw [bwd_fwd c hn]
        exact Entails.of_eq (pointsTo_congr fun i hi => write_slot1 C c (fwd c n) f i hi))) $$ [Hrow Hslot HO Ht1 Ht2]
  · isplitr; · iexact His
    isplitr; · iexact Hit
    isplitl [Hrow]; · iexact Hrow
    isplitl [Hslot]; · iexact Hslot
    isplitl [HO]; · iexact HO
    isplitl [Ht1]; · iexact Ht1
    isplitr; · iexact Hrs
    isplitl [Ht2]; · iexact Ht2
    iexact Hrt
  iintro ⟨Hc, HO⟩
  iapply Hk
  isplitl [HO]; · iexists W; iexact HO
  isplitl [HGs]; · iexact HGs
  isplitl [Hc]; · unfold cred1; iexact Hc
  iexact Hcr

/-- The copy of the second exchange to the device at distance `n`. -/
theorem step_send2 (n : ℕ) (hn : n < 7) {src dst : Memref sig .tc .vmem S32x512 .bf16} (hsrc : src = slot2 c) (hdst : dst = slot2 c)
    {d' : Dev nD} (hd : d' = fwd c n) {sA sB : DmaSem sig} (hA : sA = sS2 n) (hB : sB = sR2 n) {hsc h1 h2 h3}
    {a b : ℕ} {k : PUnit → Prog (TpuEff nD τ sig (Elt F) Λ₀ .tc) α} {Kt : α → sProp 𝕄} :
    iprop(records C Q K c ∗ owesE c (owed c a b n) ∗ bigSep (Finset.Ico n 7) (give2 Q c) ∗ bigSep (Finset.range n) (cred2 c))
      ⊢ iprop(((owesE c (owed c a b (n + 1)) ∗ bigSep (Finset.Ico (n + 1) 7) (give2 Q c) ∗ bigSep (Finset.range (n + 1)) (cred2 c)) -∗ wpc c (k ⟨⟩) Kt)
          -∗ wpc c (.op (.enqueueDma src (.remote (d' : Thread nD τ) dst (.dma sA) hsc) (.dma sB) h1 h2 h3) k) Kt) := by
  subst hsrc hdst hd hA hB
  rw [peel hn, grow]
  iintro ⟨#HR, HO, ⟨HG, HGs⟩, Hcr⟩
  iintro Hk
  ihave Hrec := (records_at C Q K c hn) $$ HR
  unfold recAt give2 got2 owesE
  icases Hrec with ⟨-, -, -, #Hit, -, -, -, -, #His, #Hrs, -⟩
  icases HO with ⟨%W, HO⟩
  icases HG with ⟨⟨Ht1, Ht2⟩, Hrow, ⟨%f, Hslot⟩, #Hrt⟩
  iapply (Rounds.wp_send_pointsTo 𝒱₀ ER (talkRd C Q) (c : Thread nD τ) none (c' := (fwd c n : Thread nD τ)) (src := slot2 c) (dst := slot2 c)
      (sS := .dma (sS2 n)) (sem := .dma (sR2 n)) (q := shareTokN fullShare n) (fs := land2 Q) (κ₁ := K (s2Cell c n)) (κ₂ := K (r2Cell (fwd c n) n))
      (r₁ := 0) (r₂ := 0) (d₁ := 0) (d₂ := 0) (fd := f)
      (by rw [duties_s2 C Q c hn]; exact Finset.mem_singleton_self _) (by rw [duties_r2 C Q (fwd c n) hn]; exact Finset.mem_singleton_self _)
      () () N2 rfl (amount_s2 C Q c hn 0 0) (amount_r2 C Q (fwd c n) hn 0 0) (owed c a b (n + 1)) (owed_r2 c hn a b) (W := W)
      (by rw [payload_s2 C Q c hn]; exact BI.Entails.refl _)
      (by
        rw [payload_r2 C Q (fwd c n) hn]; unfold r2Pay; rw [bwd_fwd c hn]
        exact Entails.of_eq (pointsTo_congr fun i hi => write_slot2 Q c f i hi))) $$ [Hrow Hslot HO Ht1 Ht2]
  · isplitr; · iexact His
    isplitr; · iexact Hit
    isplitl [Hrow]; · iexact Hrow
    isplitl [Hslot]; · iexact Hslot
    isplitl [HO]; · iexact HO
    isplitl [Ht1]; · iexact Ht1
    isplitr; · iexact Hrs
    isplitl [Ht2]; · iexact Ht2
    iexact Hrt
  iintro ⟨Hc, HO⟩
  iapply Hk
  isplitl [HO]; · iexists W; iexact HO
  isplitl [HGs]; · iexact HGs
  isplitl [Hc]; · unfold cred2; iexact Hc
  iexact Hcr

/-! ## The waits on the copies -/

/-- The wait on the first receive cell at distance `n`: `c`'s slot for the device that many places before it. -/
theorem step_recv1 (n : ℕ) (hn : n < 7) {src dst : Memref sig .tc .vmem S32x256 .bf16} {sA : DmaSem sig} (hA : sA = sR1 n) {h1 h2} {e : ℕ}
    {k : PUnit → Prog (TpuEff nD τ sig (Elt F) Λ₀ .tc) α} {Kt : α → sProp 𝕄} (hN : dst.view.dmaCredit = N1) :
    iprop(records C Q K c ∗ owesE c (owed c 7 7 e) ∗ bigSep (Finset.Ico n 7) (wait1 c) ∗ bigSep (Finset.range n) (done1 C c))
      ⊢ iprop(((owesE c (owed c 7 7 e) ∗ bigSep (Finset.Ico (n + 1) 7) (wait1 c) ∗ bigSep (Finset.range (n + 1)) (done1 C c)) -∗ wpc c (k ⟨⟩) Kt)
          -∗ wpc c (.op (.waitDma2 sA src dst h1 h2) k) Kt) := by
  subst hA
  rw [peel hn, grow]
  iintro ⟨#HR, HO, ⟨HG, HGs⟩, Hd⟩
  iintro Hk
  ihave Hrec := (records_at C Q K c hn) $$ HR
  unfold records recAt wait1 owesE
  icases HR with ⟨-, #Hlev, -⟩
  icases Hrec with ⟨-, -, -, -, -, -, #Hi, -⟩
  icases HO with ⟨%W, HO⟩
  icases HG with ⟨Hc, Ha⟩
  iapply (Rounds.wp_wait_rest_token 𝒱₀ ER (talkRd C Q) (c : Thread nD τ) none (κ := K (r1Cell c n))
      (wpE_waitDma2_eq 𝒱₀ (c : Thread nD τ) none Set.univ) (Set.mem_univ _) () (O := owed c 7 7 e) (W := W) (R := 0) (m := 0) (T := ∅)
      ((Nat.zero_add _).trans (hN.trans (expect_r1 C Q c hn).symm))) $$ [Hc HO Ha]
  · isplitr; · iexact Hi
    isplitl [Hc]; · rw [hN]; iexact Hc
    isplitl [HO]; · iexact HO
    isplitr; · iapply (mayWait_r1 c hn e); iexact Hlev
    iexact Ha
  rw [Finset.sdiff_empty, duties_r1 C Q c hn, bigSep_singleton, payload_r1 C Q c hn]
  iintro ⟨HO, Ha, -, Hp⟩
  iapply Hk
  isplitl [HO]; · iexists _; iexact HO
  isplitl [HGs]; · iexact HGs
  isplitl [Ha Hp]
  · unfold done1; isplitl [Ha]; · iexact Ha
    iexact Hp
  iexact Hd

/-- The wait on the second receive cell at distance `n`: that device's finished block. -/
theorem step_recv2 (n : ℕ) (hn : n < 7) {src dst : Memref sig .tc .vmem S32x512 .bf16} {sA : DmaSem sig} (hA : sA = sR2 n) {h1 h2}
    {k : PUnit → Prog (TpuEff nD τ sig (Elt F) Λ₀ .tc) α} {Kt : α → sProp 𝕄} (hN : dst.view.dmaCredit = N2) :
    iprop(records C Q K c ∗ owesE c 0 ∗ bigSep (Finset.Ico n 7) (wait2 c))
      ⊢ iprop(((owesE c 0 ∗ bigSep (Finset.Ico (n + 1) 7) (wait2 c) ∗ atPos ER (r2Cell c n) 1 ∅ 0 ∗ r2Pay Q c n) -∗ wpc c (k ⟨⟩) Kt)
          -∗ wpc c (.op (.waitDma2 sA src dst h1 h2) k) Kt) := by
  subst hA
  rw [peel hn]
  iintro ⟨#HR, HO, HG, HGs⟩
  iintro Hk
  ihave Hrec := (records_at C Q K c hn) $$ HR
  unfold recAt wait2 owesE
  icases Hrec with ⟨-, -, -, -, -, -, -, -, -, -, #Hi, -⟩
  icases HO with ⟨%W, HO⟩
  icases HG with ⟨Hc, Ha⟩
  iapply (Rounds.wp_wait_rest_token 𝒱₀ ER (talkRd C Q) (c : Thread nD τ) none (κ := K (r2Cell c n))
      (wpE_waitDma2_eq 𝒱₀ (c : Thread nD τ) none Set.univ) (Set.mem_univ _) () (O := 0) (W := W) (R := 0) (m := 0) (T := ∅)
      ((Nat.zero_add _).trans (hN.trans (expect_r2 C Q c hn).symm))) $$ [Hc HO Ha]
  · isplitr; · iexact Hi
    isplitl [Hc]; · rw [hN]; iexact Hc
    isplitl [HO]; · iexact HO
    isplitr; · rw [MayWait_zero]; iempintro
    iexact Ha
  rw [Finset.sdiff_empty, duties_r2 C Q c hn, bigSep_singleton, payload_r2 C Q c hn]
  iintro ⟨HO, Ha, -, Hp⟩
  iapply Hk
  isplitl [HO]; · iexists _; iexact HO
  isplitl [HGs]; · iexact HGs
  isplitl [Ha]; · iexact Ha
  iexact Hp

/-- The wait on the first send cell at distance `n`: the rows sent are back. -/
theorem step_sent1 (n : ℕ) (hn : n < 7) {src dst : Memref sig .tc .vmem S32x256 .bf16} {sA : DmaSem sig} (hA : sA = sS1 n) {h1 h2}
    {k : PUnit → Prog (TpuEff nD τ sig (Elt F) Λ₀ .tc) α} {Kt : α → sProp 𝕄} (hN : dst.view.dmaCredit = N1) :
    iprop(records C Q K c ∗ owesE c 0 ∗ bigSep (Finset.Ico n 7) (waitS1 c) ∗ bigSep (Finset.range n) (doneS1 C c))
      ⊢ iprop(((owesE c 0 ∗ bigSep (Finset.Ico (n + 1) 7) (waitS1 c) ∗ bigSep (Finset.range (n + 1)) (doneS1 C c)) -∗ wpc c (k ⟨⟩) Kt)
          -∗ wpc c (.op (.waitDma2 sA src dst h1 h2) k) Kt) := by
  subst hA
  rw [peel hn, grow]
  iintro ⟨#HR, HO, ⟨HG, HGs⟩, Hd⟩
  iintro Hk
  ihave Hrec := (records_at C Q K c hn) $$ HR
  unfold recAt waitS1 cred1 owesE
  icases Hrec with ⟨-, -, -, -, #Hi, -⟩
  icases HO with ⟨%W, HO⟩
  icases HG with ⟨Hc, Ha⟩
  iapply (Rounds.wp_wait_rest_token 𝒱₀ ER (talkRd C Q) (c : Thread nD τ) none (κ := K (s1Cell c n))
      (wpE_waitDma2_eq 𝒱₀ (c : Thread nD τ) none Set.univ) (Set.mem_univ _) () (O := 0) (W := W) (R := 0) (m := 0) (T := ∅)
      ((Nat.zero_add _).trans (hN.trans (expect_s1 C Q c hn).symm))) $$ [Hc HO Ha]
  · isplitr; · iexact Hi
    isplitl [Hc]; · rw [hN]; iexact Hc
    isplitl [HO]; · iexact HO
    isplitr; · rw [MayWait_zero]; iempintro
    iexact Ha
  rw [Finset.sdiff_empty, duties_s1 C Q c hn, bigSep_singleton, payload_s1 C Q c hn]
  iintro ⟨HO, Ha, -, Hp⟩
  iapply Hk
  isplitl [HO]; · iexists _; iexact HO
  isplitl [HGs]; · iexact HGs
  isplitl [Ha Hp]
  · unfold doneS1; isplitl [Ha]; · iexact Ha
    iexact Hp
  iexact Hd

/-- The wait on the second send cell at distance `n`: the share of the own slot that was read is back. -/
theorem step_sent2 (n : ℕ) (hn : n < 7) {src dst : Memref sig .tc .vmem S32x512 .bf16} {sA : DmaSem sig} (hA : sA = sS2 n) {h1 h2}
    {k : PUnit → Prog (TpuEff nD τ sig (Elt F) Λ₀ .tc) α} {Kt : α → sProp 𝕄} (hN : dst.view.dmaCredit = N2) :
    iprop(records C Q K c ∗ owesE c 0 ∗ bigSep (Finset.Ico n 7) (waitS2 c) ∗ bigSep (Finset.range n) (doneS2 Q c))
      ⊢ iprop(((owesE c 0 ∗ bigSep (Finset.Ico (n + 1) 7) (waitS2 c) ∗ bigSep (Finset.range (n + 1)) (doneS2 Q c)) -∗ wpc c (k ⟨⟩) Kt)
          -∗ wpc c (.op (.waitDma2 sA src dst h1 h2) k) Kt) := by
  subst hA
  rw [peel hn, grow]
  iintro ⟨#HR, HO, ⟨HG, HGs⟩, Hd⟩
  iintro Hk
  ihave Hrec := (records_at C Q K c hn) $$ HR
  unfold recAt waitS2 cred2 owesE
  icases Hrec with ⟨-, -, -, -, -, -, -, -, #Hi, -⟩
  icases HO with ⟨%W, HO⟩
  icases HG with ⟨Hc, Ha⟩
  iapply (Rounds.wp_wait_rest_token 𝒱₀ ER (talkRd C Q) (c : Thread nD τ) none (κ := K (s2Cell c n))
      (wpE_waitDma2_eq 𝒱₀ (c : Thread nD τ) none Set.univ) (Set.mem_univ _) () (O := 0) (W := W) (R := 0) (m := 0) (T := ∅)
      ((Nat.zero_add _).trans (hN.trans (expect_s2 C Q c hn).symm))) $$ [Hc HO Ha]
  · isplitr; · iexact Hi
    isplitl [Hc]; · rw [hN]; iexact Hc
    isplitl [HO]; · iexact HO
    isplitr; · rw [MayWait_zero]; iempintro
    iexact Ha
  rw [Finset.sdiff_empty, duties_s2 C Q c hn, bigSep_singleton, payload_s2 C Q c hn]
  iintro ⟨HO, Ha, -, Hp⟩
  iapply Hk
  isplitl [HO]; · iexists _; iexact HO
  isplitl [HGs]; · iexact HGs
  isplitl [Ha Hp]
  · unfold doneS2; isplitl [Ha]; · iexact Ha
    iexact Hp
  iexact Hd

end Cert.KernelIdeal.Talk

end
-- ==== Proof.Vals.lean ====
module

public import proofs.«01_k».proof.Proof.Steps
public import proofs.«01_k».proof.Proof.Gen.KernelIdeal.Skeleton
public import Idealize.ShloMosaic.Lib.VecWindow

/-!
# What one device computes

The contents of every buffer of the kernel's body, as functions of the device's five operands and of what the other
devices send.
-/

@[expose] public section

noncomputable section

namespace Cert.KernelIdeal.Talk

open Cert.KernelIdeal Cert.KernelIdeal.Gen
open Idealize.ShloMosaic Idealize.ShloMosaic.TcCoe

variable {F : FTy → Type} [FloatOps F] [Named F]

/-! ## The two block-diagonal operands -/

/-- The key operand once zeroed and with its first head in place. -/
def kbd1 (k : S4x64x256.Idx → Elt F .bf16) : S256x1024.Idx → Elt F .bf16 :=
  VecWindow.put k0_pay1 ![0, 0] S64x256.size (k0_pay3 (View.readAt (Elt F) (Memref.whole cc0_stg2_0).view (Rect.unit (s := S4x64x256) ![0, 0, 0] S1x64x256.size inb_S4x64x256_S1x64x256_0_0_0).toLoadRect k))
/-- The key operand: head `h` of the keys at rows `64 h ..`, columns `256 h ..`, zero elsewhere. -/
def kbd (k : S4x64x256.Idx → Elt F .bf16) : S256x1024.Idx → Elt F .bf16 :=
  VecWindow.put
    (VecWindow.put
      (VecWindow.put (kbd1 k) ![64, 256] S64x256.size
        (k0_pay5 (View.readAt (Elt F) (Memref.whole cc0_stg2_0).view (Rect.unit (s := S4x64x256) ![1, 0, 0] S1x64x256.size inb_S4x64x256_S1x64x256_1_0_0).toLoadRect k)))
      ![128, 512] S64x256.size (k0_pay7 (View.readAt (Elt F) (Memref.whole cc0_stg2_0).view (Rect.unit (s := S4x64x256) ![2, 0, 0] S1x64x256.size inb_S4x64x256_S1x64x256_2_0_0).toLoadRect k)))
    ![192, 768] S64x256.size (k0_pay9 (View.readAt (Elt F) (Memref.whole cc0_stg2_0).view (Rect.unit (s := S4x64x256) ![3, 0, 0] S1x64x256.size inb_S4x64x256_S1x64x256_3_0_0).toLoadRect k))

/-- The value operand once zeroed and with its first head in place. -/
def vbd1 (v : S4x256x64.Idx → Elt F .bf16) : S1024x256.Idx → Elt F .bf16 :=
  VecWindow.put k0_pay2 ![0, 0] S256x64.size (k0_pay4 (View.readAt (Elt F) (Memref.whole cc0_stg3_0).view (Rect.unit (s := S4x256x64) ![0, 0, 0] S1x256x64.size inb_S4x256x64_S1x256x64_0_0_0).toLoadRect v))
/-- The value operand with three heads in place. -/
def vbd3 (v : S4x256x64.Idx → Elt F .bf16) : S1024x256.Idx → Elt F .bf16 :=
  VecWindow.put
    (VecWindow.put (vbd1 v) ![256, 64] S256x64.size
      (k0_pay6 (View.readAt (Elt F) (Memref.whole cc0_stg3_0).view (Rect.unit (s := S4x256x64) ![1, 0, 0] S1x256x64.size inb_S4x256x64_S1x256x64_1_0_0).toLoadRect v)))
    ![512, 128] S256x64.size (k0_pay8 (View.readAt (Elt F) (Memref.whole cc0_stg3_0).view (Rect.unit (s := S4x256x64) ![2, 0, 0] S1x256x64.size inb_S4x256x64_S1x256x64_2_0_0).toLoadRect v))
/-- The last head of the values. -/
def vhead3 (v : S4x256x64.Idx → Elt F .bf16) : FVec F S256x64 .bf16 :=
  k0_pay10 (View.readAt (Elt F) (Memref.whole cc0_stg3_0).view (Rect.unit (s := S4x256x64) ![3, 0, 0] S1x256x64.size inb_S4x256x64_S1x256x64_3_0_0).toLoadRect v)
/-- The value operand: head `h` of the values at rows `256 h ..`, columns `64 h ..`, zero elsewhere. -/
def vbd (v : S4x256x64.Idx → Elt F .bf16) : S1024x256.Idx → Elt F .bf16 :=
  VecWindow.put (vbd3 v) ![768, 192] S256x64.size (k0_pay11 (vhead3 v))

/-! ## The context, the strip, the finished block and the result -/

/-- The row numbers and the column numbers of the scores. -/
def rowNo : IVec S256x1024 32 := iota .tc S256x1024 32 [0] iota_S256x1024_d0_w32
def colNo : IVec S256x1024 32 := iota .tc S256x1024 32 [1] iota_S256x1024_d1_w32
/-- The exponentials of the masked scores of all four heads, from the scores. -/
def expOf (s : FVec F S256x1024 .f32) : FVec F S256x1024 .f32 :=
  k0_pay21 s colNo k0_pay13 (k0_pay16 k0_pay14 128#32 k0_pay15 0#32) (k0_pay18 rowNo) (k0_pay19 rowNo) (k0_pay20 rowNo)
def exp0Of (s : FVec F S256x1024 .f32) : FVec F S256x256 .f32 :=
  k0_pay22 s colNo k0_pay13 (k0_pay16 k0_pay14 128#32 k0_pay15 0#32) (k0_pay18 rowNo) (k0_pay19 rowNo) (k0_pay20 rowNo)
/-- The scores. -/
def scores (x : S256x512.Idx → Elt F .bf16) (wq : S512x256.Idx → Elt F .bf16) (k : S4x64x256.Idx → Elt F .bf16) :
    FVec F S256x1024 .f32 := k0_pay12 x wq (kbd k)
/-- A device's context, from its queries' operands, its keys and its values. -/
def ctxV (x : S256x512.Idx → Elt F .bf16) (wq : S512x256.Idx → Elt F .bf16) (k : S4x64x256.Idx → Elt F .bf16)
    (v : S4x256x64.Idx → Elt F .bf16) : S256x256.Idx → Elt F .bf16 :=
  k0_pay23 (expOf (scores x wq k)) (exp0Of (scores x wq k)) (vbd v)

/-- The strip of device `c`: at columns `256 o ..` the rows device `o` sent it. -/
def stripV (C : Dev nD → S256x256.Idx → Elt F .bf16) (c : Dev nD) : S32x2048.Idx → Elt F .bf16 := fun i =>
  land1 C c (Fin.cons ⟨(i 1).val / 256, by have h := (i 1).isLt; change _ < 2048 at h; show _ < 8; omega⟩
    (Fin.cons ⟨(i 0).val, (i 0).isLt⟩ (Fin.cons ⟨(i 1).val % 256, Nat.mod_lt _ (by decide)⟩ finZeroElim)))
/-- Its block of the result, from its strip and the output weights. -/
def blkV (C : Dev nD → S256x256.Idx → Elt F .bf16) (wo : S2048x512.Idx → Elt F .bf16) (c : Dev nD) : FVec F S32x512 .f32 :=
  k0_pay34 (stripV C c) (k0_pay25 wo) (constant S32x512 .f32 0x00000000#32)
/-- The block as it is sent, in the narrower format. -/
def finV (C : Dev nD → S256x256.Idx → Elt F .bf16) (wo : S2048x512.Idx → Elt F .bf16) (c : Dev nD) : S32x512.Idx → Elt F .bf16 :=
  truncf .bf16 (blkV C wo c) bitsLt_bf16_f32
/-- The position of row `i` of the result in the block of the device that owns it. -/
def inBlock (i : S256x512.Idx) : S32x512.Idx :=
  Fin.cons ⟨(i 0).val % 32, Nat.mod_lt _ (by decide)⟩ (Fin.cons (i 1) finZeroElim)
/-- Device `c`'s result: its own block `blk` where it is its own, the widened block of the owner elsewhere. -/
def outV (Q : Dev nD → S32x512.Idx → Elt F .bf16) (blk : FVec F S32x512 .f32) (c : Dev nD) : S256x512.Idx → Elt F .f32 := fun i =>
  if (i 0).val / 32 = c.val then blk (inBlock i) else extf .f32 (Q (rowDev (i 0).val (i 0).isLt)) bitsLt_bf16_f32 (inBlock i)

/-! ## Stores over a whole buffer's contents -/

theorem put_whole (b : Ref sig .tc) (f : b.ty.Contents (Elt F)) {off size : Fin b.ty.shape.rank → ℕ}
    (inb : ∀ a, off a + size a ≤ b.ty.shape.size a) (w : (Rect.unit (s := b.ty.shape) off size inb).shape.Idx → Elt F b.ty.elt)
    (L : List (View.Piece (Elt F) b.ty.shape b.ty.elt)) :
    (Memref.whole b).view.writes (Elt F) f (⟨Rect.unit off size inb, w⟩ :: L)
      = VecWindow.put ((Memref.whole b).view.writes (Elt F) f L) off size w :=
  View.read_writes_cons_put (Memref.whole b).view f inb w L rfl
theorem put_full (b : Ref sig .tc) (w' : b.ty.Contents (Elt F)) (f : b.ty.Contents (Elt F)) {off size : Fin b.ty.shape.rank → ℕ}
    (inb : ∀ a, off a + size a ≤ b.ty.shape.size a) (w : (Rect.unit (s := b.ty.shape) off size inb).shape.Idx → Elt F b.ty.elt)
    (L : List (View.Piece (Elt F) b.ty.shape b.ty.elt)) (hs : size = b.ty.shape.size) (hw : HEq w w') :
    (Memref.whole b).view.writes (Elt F) f (⟨Rect.unit off size inb, w⟩ :: L) = w' := by
  subst hs
  cases eq_of_heq hw
  exact View.read_writes_full (Memref.whole b).view f inb _ L

end Cert.KernelIdeal.Talk

end
-- ==== Proof.Body1.lean ====
module

public import proofs.«01_k».proof.Proof.Vals

/-!
# The body, first half: the barrier and the context

Each printed part of the kernel's body, run at a symbolic device `c`.
-/

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (C : Dev nD → S256x256.Idx → Elt F .bf16) (Q : Dev nD → S32x512.Idx → Elt F .bf16) (K : GSem nD τ sig → ℕ) (c : Dev nD)

/-- A computed device number that is the one `n + 1` places after `c`. -/
theorem dev_fwd {v : ℕ} (hv : v < nD) (n : ℕ) (h : v = (c.val + (n + 1)) % 8) : (⟨v, hv⟩ : Dev nD) = fwd c n :=
  Fin.ext (h.trans (by rw [fwd_val]; congr 1))

/-- The device's own number as a word. -/
abbrev meWord : BitVec 32 := Scalar.remsi (Scalar.divsi (Dev.word c) 1#32) 8#32

/-! ## The buffers, held whole -/

abbrev bX (f : S256x512.Idx → Elt F .bf16) : sProp 𝕄 := (Memref.whole cc0_stg0_0).view.loc (c : Thread nD τ) ↦{fullShare} f
abbrev bWq (f : S512x256.Idx → Elt F .bf16) : sProp 𝕄 := (Memref.whole cc0_stg1_0).view.loc (c : Thread nD τ) ↦{fullShare} f
abbrev bKe (f : S4x64x256.Idx → Elt F .bf16) : sProp 𝕄 := (Memref.whole cc0_stg2_0).view.loc (c : Thread nD τ) ↦{fullShare} f
abbrev bVa (f : S4x256x64.Idx → Elt F .bf16) : sProp 𝕄 := (Memref.whole cc0_stg3_0).view.loc (c : Thread nD τ) ↦{fullShare} f
abbrev bWo (f : S2048x512.Idx → Elt F .bf16) : sProp 𝕄 := (Memref.whole cc0_stg4_0).view.loc (c : Thread nD τ) ↦{fullShare} f
abbrev bOut (f : S256x512.Idx → Elt F .f32) : sProp 𝕄 := (Memref.whole cc0_stg5_0).view.loc (c : Thread nD τ) ↦{fullShare} f
abbrev bKbd (f : S256x1024.Idx → Elt F .bf16) : sProp 𝕄 := (Memref.whole cc0_scratch0).view.loc (c : Thread nD τ) ↦{fullShare} f
abbrev bVbd (f : S1024x256.Idx → Elt F .bf16) : sProp 𝕄 := (Memref.whole cc0_scratch1).view.loc (c : Thread nD τ) ↦{fullShare} f
abbrev bCtx (f : S256x256.Idx → Elt F .bf16) : sProp 𝕄 := (Memref.whole cc0_scratch2).view.loc (c : Thread nD τ) ↦{fullShare} f
abbrev bStrip (f : S32x2048.Idx → Elt F .bf16) : sProp 𝕄 := (Memref.whole cc0_scratch3).view.loc (c : Thread nD τ) ↦{fullShare} f
abbrev bWob (f : S2048x512.Idx → Elt F .bf16) : sProp 𝕄 := (Memref.whole cc0_scratch4).view.loc (c : Thread nD τ) ↦{fullShare} f
abbrev bP1 (f : S8x32x256.Idx → Elt F .bf16) : sProp 𝕄 := (Memref.whole cc0_scratch5).view.loc (c : Thread nD τ) ↦{fullShare} f
abbrev bP2 (f : S8x32x512.Idx → Elt F .bf16) : sProp 𝕄 := (Memref.whole cc0_scratch6).view.loc (c : Thread nD τ) ↦{fullShare} f

/-- A finished program leaves what its result entails. -/
theorem wpc_ret {α : Type} (a : α) (Kt : α → sProp 𝕄) : Kt a ⊢ wpc c (.ret a) Kt := by
  unfold wpc; rw [wp_ret]; iintro H; imodintro; iexact H
theorem wp_ret_of_eq {α : Type} {a b : α} (h : a = b) (Kt : α → sProp 𝕄) :
    Kt b ⊢ wp frame (wpE (defs₀ (F := F)) 𝒱₀ (c : Thread nD τ) none) Set.univ (.ret a) Kt := by
  subst h; exact wpc_ret c a Kt

/-! ## The barrier -/

/-- The first five signals. -/
theorem run1 (Kt : _ → sProp 𝕄) :
    iprop(records C Q K c ∗ owesE c (owed c 0 0 0) ∗ bigSep (Finset.Ico 0 7) (giveB c))
      ⊢ iprop((∀ v24 : BitVec 32, (owesE c (owed c 5 0 0) ∗ bigSep (Finset.Ico 5 7) (giveB c))
            -∗ Kt ⟨c, meWord c, SemArray.scalar (sig.barrier 0 rfl), v24, 8#32⟩)
          -∗ wpc c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt) := by
  rw [k0_part1_eq_skeleton]; unfold k0_part1_skel
  simp only [semSignalWord, Prog.lift, Prog.bind_op, Prog.bind_ret, Prog.pure_eq_ret, Prog.bind_assoc, wp_deviceId]
  iintro ⟨#HR, HO, HG⟩
  iintro Hk
  iapply (step_signal C Q K c 0 (by decide) (dev_fwd c _ 0 (k0_dev1_eq c)) rfl rfl) $$ [$HR $HO $HG]
  iintro ⟨HO, HG⟩
  iapply (step_signal C Q K c 1 (by decide) (dev_fwd c _ 1 (k0_dev2_eq c)) rfl rfl) $$ [$HR $HO $HG]
  iintro ⟨HO, HG⟩
  iapply (step_signal C Q K c 2 (by decide) (dev_fwd c _ 2 (k0_dev3_eq c)) rfl rfl) $$ [$HR $HO $HG]
  iintro ⟨HO, HG⟩
  iapply (step_signal C Q K c 3 (by decide) (dev_fwd c _ 3 (k0_dev4_eq c)) rfl rfl) $$ [$HR $HO $HG]
  iintro ⟨HO, HG⟩
  iapply (step_signal C Q K c 4 (by decide) (dev_fwd c _ 4 (k0_dev5_eq c)) rfl rfl) $$ [$HR $HO $HG]
  iintro ⟨HO, HG⟩
  iapply (wpc_ret c _ Kt)
  iapply Hk $$ [$HO $HG]

/-- The last two signals, the wait of the barrier, and the first head of the keys and of the values. -/
theorem run2 (v24 c8 : BitVec 32) (k : S4x64x256.Idx → Elt F .bf16) (v : S4x256x64.Idx → Elt F .bf16)
    (f6 : S256x1024.Idx → Elt F .bf16) (f7 : S1024x256.Idx → Elt F .bf16) (Kt : _ → sProp 𝕄) :
    iprop(records C Q K c ∗ owesE c (owed c 5 0 0) ∗ bigSep (Finset.Ico 5 7) (giveB c)
        ∗ (cred (tallyAt (barCell c) () 7) ∗ atPos ER (barCell c) 0 ∅ 0) ∗ bKe c k ∗ bVa c v ∗ bKbd c f6 ∗ bVbd c f7)
      ⊢ iprop(((owesE c (owed c 7 0 0) ∗ atPos ER (barCell c) 1 ∅ 0 ∗ bigSep (Finset.range 7) (got1 c) ∗ bigSep (Finset.range 7) (got2 c)
              ∗ bKe c k ∗ bVa c v ∗ bKbd c (kbd1 k) ∗ bVbd c (vbd1 v)) -∗ Kt ⟨⟩)
          -∗ wpc c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (meWord c) (SemArray.scalar (sig.barrier 0 rfl)) v24 c8) Kt) := by
  rw [k0_part2_eq_skeleton]; unfold k0_part2_skel
  simp only [semSignalWord, semWaitWord, Prog.lift, Prog.bind_op, Prog.bind_ret, Prog.pure_eq_ret, Prog.bind_assoc]
  unfold bKe bVa bKbd bVbd
  iintro ⟨#HR, HO, HG, ⟨Hc, Ha⟩, H2, H3, H6, H7⟩
  iintro Hk
  iapply (step_signal C Q K c 5 (by decide) (dev_fwd c _ 5 (k0_dev6_eq c)) rfl rfl) $$ [$HR $HO $HG]
  iintro ⟨HO, HG⟩
  iapply (step_signal C Q K c 6 (by decide) (dev_fwd c _ 6 (k0_dev7_eq c)) rfl rfl) $$ [$HR $HO $HG]
  iintro ⟨HO, HG⟩
  iapply (step_barrier C Q K c rfl rfl) $$ [$HR $HO $Hc $Ha]
  iintro ⟨HO, Ha, Hg1, Hg2⟩
  unfold wpc
  sl_exec
  rw [put_whole cc0_scratch0, put_full cc0_scratch0 (size := ![256, 1024]) k0_pay1 f6 _ _ _ rfl HEq.rfl, put_whole cc0_scratch1,
    put_full cc0_scratch1 (size := ![1024, 256]) k0_pay2 f7 _ _ _ rfl HEq.rfl]
  iapply (wpc_ret c _ Kt)
  iapply Hk
  isplitl [HO]; · iexact HO
  isplitl [Ha]; · iexact Ha
  isplitl [Hg1]; · iexact Hg1
  isplitl [Hg2]; · iexact Hg2
  isplitl [H2]; · iexact H2
  isplitl [H3]; · iexact H3
  isplitl [H6]; · iexact H6
  iexact H7

/-- The second and third heads in place, the last one read. -/
theorem run3 (k : S4x64x256.Idx → Elt F .bf16) (v : S4x256x64.Idx → Elt F .bf16) (Kt : _ → sProp 𝕄) :
    iprop(bKe c k ∗ bVa c v ∗ bKbd c (kbd1 k) ∗ bVbd c (vbd1 v))
      ⊢ iprop(((bKe c k ∗ bVa c v ∗ bKbd c (kbd k) ∗ bVbd c (vbd3 v)) -∗ Kt (vhead3 v))
          -∗ wpc c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt) := by
  rw [k0_part3_eq_skeleton]; unfold k0_part3_skel wpc bKe bVa bKbd bVbd
  iintro ⟨H2, H3, H6, H7⟩
  iintro Hk
  sl_exec
  rw [put_whole cc0_scratch0, put_whole cc0_scratch0, put_whole cc0_scratch0, put_whole cc0_scratch1, put_whole cc0_scratch1,
    View.writes_nil, View.writes_nil]
  iapply (wp_ret_of_eq c (b := vhead3 v) rfl Kt)
  iapply Hk
  isplitl [H2]; · iexact H2
  isplitl [H3]; · iexact H3
  isplitl [H6]; · iexact H6
  iexact H7

/-! Loads of whole buffers read their contents. -/

theorem read_x (x : S256x512.Idx → Elt F .bf16) :
    View.readAt (Elt F) (Memref.whole cc0_stg0_0).view (Rect.unit (s := S256x512) ![0, 0] S256x512.size inb_S256x512_S256x512_0_0).toLoadRect x = x :=
  View.readAt_full (Memref.whole cc0_stg0_0).view x _
theorem read_wq (x : S512x256.Idx → Elt F .bf16) :
    View.readAt (Elt F) (Memref.whole cc0_stg1_0).view (Rect.unit (s := S512x256) ![0, 0] S512x256.size inb_S512x256_S512x256_0_0).toLoadRect x = x :=
  View.readAt_full (Memref.whole cc0_stg1_0).view x _
theorem read_kbd (x : S256x1024.Idx → Elt F .bf16) :
    View.readAt (Elt F) (Memref.whole cc0_scratch0).view (Rect.unit (s := S256x1024) ![0, 0] S256x1024.size inb_S256x1024_S256x1024_0_0).toLoadRect x = x :=
  View.readAt_full (Memref.whole cc0_scratch0).view x _
theorem read_vbd (x : S1024x256.Idx → Elt F .bf16) :
    View.readAt (Elt F) (Memref.whole cc0_scratch1).view (Rect.unit (s := S1024x256) ![0, 0] S1024x256.size inb_S1024x256_S1024x256_0_0).toLoadRect x = x :=
  View.readAt_full (Memref.whole cc0_scratch1).view x _

/-- The last head of the values in place, and the scores. -/
theorem run4 (x : S256x512.Idx → Elt F .bf16) (wq : S512x256.Idx → Elt F .bf16) (k : S4x64x256.Idx → Elt F .bf16)
    (v : S4x256x64.Idx → Elt F .bf16) (Kt : _ → sProp 𝕄) :
    iprop(bX c x ∗ bWq c wq ∗ bKbd c (kbd k) ∗ bVbd c (vbd3 v))
      ⊢ iprop(((bX c x ∗ bWq c wq ∗ bKbd c (kbd k) ∗ bVbd c (vbd v))
            -∗ Kt ⟨scores x wq k, rowNo, colNo, k0_pay13, k0_pay14, 128#32, k0_pay15, 0#32⟩)
          -∗ wpc c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (vhead3 v)) Kt) := by
  rw [k0_part4_eq_skeleton]; unfold k0_part4_skel wpc bX bWq bKbd bVbd
  iintro ⟨H0, H1, H6, H7⟩
  iintro Hk
  sl_exec
  rw [put_whole cc0_scratch1, View.writes_nil]
  iapply (wp_ret_of_eq c (b := ⟨scores x wq k, rowNo, colNo, k0_pay13, k0_pay14, 128#32, k0_pay15, 0#32⟩) (by
    rw [read_x, read_wq, read_kbd]; rfl) Kt)
  iapply Hk
  isplitl [H0]; · iexact H0
  isplitl [H1]; · iexact H1
  isplitl [H6]; · iexact H6
  iexact H7

/-- The numbers of the mask. -/
theorem run5 (Kt : _ → sProp 𝕄) :
    Kt ⟨k0_pay16 k0_pay14 128#32 k0_pay15 0#32, k0_pay18 rowNo, k0_pay19 rowNo, k0_pay20 rowNo⟩
      ⊢ wpc c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 rowNo k0_pay14 128#32 k0_pay15 0#32) Kt := by
  rw [k0_part5_eq_skeleton]; exact wpc_ret c _ Kt

/-- The exponentials. -/
theorem run6 (s : FVec F S256x1024 .f32) (Kt : _ → sProp 𝕄) :
    Kt ⟨expOf s, exp0Of s⟩
      ⊢ wpc c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 s colNo k0_pay13 (k0_pay16 k0_pay14 128#32 k0_pay15 0#32) (k0_pay18 rowNo) (k0_pay19 rowNo)
          (k0_pay20 rowNo)) Kt := by
  rw [k0_part6_eq_skeleton]; exact wpc_ret c _ Kt

/-! ## The context, and the first copies -/

/-- The rights to the two payments of a copy of the first exchange, and of the second. -/
def toks1 (c : Dev nD) (d : ℕ) : sProp 𝕄 := iprop(dutyTok ER (s1Cell c d) 0 0 ∗ dutyTok ER (r1Cell (fwd c d) d) 0 0)
def toks2 (c : Dev nD) (d : ℕ) : sProp 𝕄 := iprop(dutyTok ER (s2Cell c d) 0 0 ∗ dutyTok ER (r2Cell (fwd c d) d) 0 0)

/-- A slice of the context at the rows of the device `n + 1` places after `c`. -/
theorem src_rows (n : ℕ) {off : Fin 2 → ℕ} (h : off = ![32 * ((c.val + n + 1) % 8), 0]) (inb hs) :
    (Memref.whole cc0_scratch2).slice (Rect.unit (s := S256x256) off S32x256.size inb) hs = rows (fwd c n) :=
  Memref.slice_unit_congr _ (h.trans (by rw [fwd_val])) _ _ _ _
/-- A slot of the first landing buffer at device `c`. -/
theorem dst_slot1 {off : Fin 3 → ℕ} (h : off = ![c.val, 0, 0]) (inb hs) :
    ((Memref.whole cc0_scratch5).slice (Rect.unit (s := S8x32x256) off S1x32x256.size inb) hs).squeeze S32x256 squeezes_S1x32x256_S32x256
      = slot1 c := by
  subst h; rfl
/-- A slot of the second landing buffer at device `c`. -/
theorem dst_slot2 {off : Fin 3 → ℕ} (h : off = ![c.val, 0, 0]) (inb hs) :
    ((Memref.whole cc0_scratch6).slice (Rect.unit (s := S8x32x512) off S1x32x512.size inb) hs).squeeze S32x512 squeezes_S1x32x512_S32x512
      = slot2 c := by
  subst h; rfl

/-- The context, in the rows of each device. -/
theorem split_ctx (f : S256x256.Idx → Elt F .bf16) :
    bCtx c f = iprop(rowsPts c c f ∗ bigSep (Finset.range 7) fun d => rowsPts c (fwd c d) f) := by
  have h : (bCtx c f : sProp 𝕄) = _ := Ring.pointsTo_blocks (q := fullShare) (ℓ := (Memref.whole cc0_scratch2).view.loc (c : Thread nD τ))
    (fun s : Dev nD => (rows s).view.set) rows_disjoint rows_cover f
  exact h.trans (bigSep_fwd c _)

/-- What the copies of the first exchange take, put together. -/
theorem gather1 :
    iprop(bigSep (Finset.range 7) (toks1 (F := F) c) ∗ (bigSep (Finset.range 7) fun d => rowsPts c (fwd c d) (C c)) ∗ bigSep (Finset.range 7) (got1 c))
      ⊢ bigSep (Finset.Ico 0 7) (give1 C c) := by
  rw [← Finset.range_eq_Ico]
  exact BI.Entails.trans (BI.sep_mono (BI.Entails.refl _) (Entails.of_eq (bigSep_sep _ _ _).symm)) (Entails.of_eq (bigSep_sep _ _ _).symm)

/-- The context stored, and the first copy. -/
theorem run7 (v2 : BitVec 32) (v210 : FVec F S256x1024 .f32) (v211 : FVec F S256x256 .f32) (v : S4x256x64.Idx → Elt F .bf16)
    (f8 : S256x256.Idx → Elt F .bf16) (hC : C c = k0_pay23 v210 v211 (vbd v)) (Kt : BitVec 32 → sProp 𝕄) :
    iprop(records C Q K c ∗ owesE c (owed c 7 0 0) ∗ bigSep (Finset.range 7) (toks1 c) ∗ bigSep (Finset.range 7) (got1 c)
        ∗ bVbd c (vbd v) ∗ bCtx c f8)
      ⊢ iprop((∀ w, (owesE c (owed c 7 1 0) ∗ bigSep (Finset.Ico 1 7) (give1 C c) ∗ bigSep (Finset.range 1) (cred1 c)
              ∗ rowsPts c c (C c) ∗ bVbd c (vbd v)) -∗ Kt w)
          -∗ wpc c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v210 v211) Kt) := by
  rw [k0_part7_eq_skeleton]; unfold k0_part7_skel
  simp (config := {proj := false}) only [Prog.lift, Prog.bind_op, Prog.bind_ret, Prog.pure_eq_ret, Prog.bind_assoc]
  unfold wpc bVbd bCtx
  iintro ⟨#HR, HO, Ht, Hg, H7, H8⟩
  iintro Hk
  sl_exec
  rw [put_full cc0_scratch2 (size := S256x256.size) (C c) f8 _ _ _ rfl (by
    rw [hC, read_vbd])]
  ihave H8 := (Entails.of_eq (split_ctx c (C c))) $$ H8
  icases H8 with ⟨H8c, H8⟩
  ihave HG := (gather1 C c) $$ [$Ht $H8 $Hg]
  ihave Hcr := (grow_zero (cred1 (F := F) c)) $$ []
  · iempintro
  iapply (step_send1 C Q K c 0 (by decide) (src_rows c 0 (k0_off2_eq c 0) _ _) (dst_slot1 c (k0_off1_eq c) _ _)
    (dev_fwd c _ 0 (k0_dev8_eq c)) rfl rfl) $$ [$HR $HO $HG $Hcr]
  iintro ⟨HO, HG, Hcr⟩
  iapply (wpc_ret c _ Kt)
  iapply Hk $$ [$HO $HG $Hcr $H8c $H7]

/-- Two more copies. -/
theorem run8 (v2 : BitVec 32) (Kt : _ → sProp 𝕄) :
    iprop(records C Q K c ∗ owesE c (owed c 7 1 0) ∗ bigSep (Finset.Ico 1 7) (give1 C c) ∗ bigSep (Finset.range 1) (cred1 c))
      ⊢ iprop((∀ w, (owesE c (owed c 7 3 0) ∗ bigSep (Finset.Ico 3 7) (give1 C c) ∗ bigSep (Finset.range 3) (cred1 c)) -∗ Kt w)
          -∗ wpc c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2) Kt) := by
  rw [k0_part8_eq_skeleton]; unfold k0_part8_skel
  simp (config := {proj := false}) only [Prog.lift, Prog.bind_op, Prog.bind_ret, Prog.pure_eq_ret, Prog.bind_assoc]
  iintro ⟨#HR, HO, HG, Hcr⟩
  iintro Hk
  iapply (step_send1 C Q K c 1 (by decide) (src_rows c 1 (k0_off2_eq c 1) _ _) (dst_slot1 c (k0_off1_eq c) _ _)
    (dev_fwd c _ 1 (k0_dev9_eq c)) rfl rfl) $$ [$HR $HO $HG $Hcr]
  iintro ⟨HO, HG, Hcr⟩
  iapply (step_send1 C Q K c 2 (by decide) (src_rows c 2 (k0_off2_eq c 2) _ _) (dst_slot1 c (k0_off1_eq c) _ _)
    (dev_fwd c _ 2 (k0_dev10_eq c)) rfl rfl) $$ [$HR $HO $HG $Hcr]
  iintro ⟨HO, HG, Hcr⟩
  iapply (wpc_ret c _ Kt)
  iapply Hk $$ [$HO $HG $Hcr]

/-- Three more copies. -/
theorem run9 (v2 : BitVec 32) (Kt : _ → sProp 𝕄) :
    iprop(records C Q K c ∗ owesE c (owed c 7 3 0) ∗ bigSep (Finset.Ico 3 7) (give1 C c) ∗ bigSep (Finset.range 3) (cred1 c))
      ⊢ iprop((∀ w, (owesE c (owed c 7 6 0) ∗ bigSep (Finset.Ico 6 7) (give1 C c) ∗ bigSep (Finset.range 6) (cred1 c)) -∗ Kt w)
          -∗ wpc c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2) Kt) := by
  rw [k0_part9_eq_skeleton]; unfold k0_part9_skel
  simp (config := {proj := false}) only [Prog.lift, Prog.bind_op, Prog.bind_ret, Prog.pure_eq_ret, Prog.bind_assoc]
  iintro ⟨#HR, HO, HG, Hcr⟩
  iintro Hk
  iapply (step_send1 C Q K c 3 (by decide) (src_rows c 3 (k0_off2_eq c 3) _ _) (dst_slot1 c (k0_off1_eq c) _ _)
    (dev_fwd c _ 3 (k0_dev11_eq c)) rfl rfl) $$ [$HR $HO $HG $Hcr]
  iintro ⟨HO, HG, Hcr⟩
  iapply (step_send1 C Q K c 4 (by decide) (src_rows c 4 (k0_off2_eq c 4) _ _) (dst_slot1 c (k0_off1_eq c) _ _)
    (dev_fwd c _ 4 (k0_dev12_eq c)) rfl rfl) $$ [$HR $HO $HG $Hcr]
  iintro ⟨HO, HG, Hcr⟩
  iapply (step_send1 C Q K c 5 (by decide) (src_rows c 5 (k0_off2_eq c 5) _ _) (dst_slot1 c (k0_off1_eq c) _ _)
    (dev_fwd c _ 5 (k0_dev13_eq c)) rfl rfl) $$ [$HR $HO $HG $Hcr]
  iintro ⟨HO, HG, Hcr⟩
  iapply (wpc_ret c _ Kt)
  iapply Hk $$ [$HO $HG $Hcr]

end Cert.KernelIdeal.Talk

end
-- ==== Proof.Hand.lean ====
module

public import proofs.«01_k».proof.Proof.Vals

/-!
# Loads and stores of a slice

The body reads and writes single slots of the landing buffers, and blocks of rows of the context and of the result,
while other devices hold the rest of the first three.
-/

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (C : Dev nD → S256x256.Idx → Elt F .bf16) (Q : Dev nD → S32x512.Idx → Elt F .bf16) (c : Dev nD)

/-! ## Casts that add or drop a leading axis of extent one -/

theorem cast_drop {a b : ℕ} {α : Type} (x : (⟨3, ![1, a, b]⟩ : Shape).Idx → α) (h : (⟨3, ![1, a, b]⟩ : Shape).ShapeCasts ⟨2, ![a, b]⟩)
    (y : (⟨2, ![a, b]⟩ : Shape).Idx) : shapeCast ⟨2, ![a, b]⟩ x h y = x (Fin.cons ⟨0, Nat.one_pos⟩ y) :=
  congrArg x (Shape.reshapeEquiv_cons_one (d := ![a, b]) h y)

theorem cast_add {a b : ℕ} {α : Type} (x : (⟨2, ![a, b]⟩ : Shape).Idx → α) (h : (⟨2, ![a, b]⟩ : Shape).ShapeCasts ⟨3, ![1, a, b]⟩)
    (h' : (⟨3, ![1, a, b]⟩ : Shape).ShapeCasts ⟨2, ![a, b]⟩)
    (y : (⟨2, ![a, b]⟩ : Shape).Idx) : shapeCast ⟨3, ![1, a, b]⟩ x h (Fin.cons ⟨0, Nat.one_pos⟩ y) = x y := by
  rw [← cast_drop (shapeCast ⟨3, ![1, a, b]⟩ x h) h' y, shapeCast_shapeCast]

/-! ## What is read and written -/

/-- Slot `o` of the complete second landing buffer, as it is loaded. -/
def sent2 (o : Dev nD) : S1x32x512.Idx → Elt F .bf16 := fun y => Q o (Fin.cons (y 1) (Fin.cons (y 2) finZeroElim))
/-- Device `o`'s finished block, widened. -/
def wide (o : Dev nD) : FVec F S32x512 .f32 := extf .f32 (Q o) bitsLt_bf16_f32

/-- A loaded slot without its leading axis, widened, is the block widened. -/
theorem wide_of_cast (o : Dev nD) (h : S1x32x512.ShapeCasts S32x512) :
    extf .f32 (shapeCast S32x512 (sent2 Q o) h) bitsLt_bf16_f32 = wide Q o := by
  unfold wide
  refine congrArg (fun z => extf .f32 z bitsLt_bf16_f32) (funext fun y => ?_)
  refine (cast_drop (sent2 Q o) h y).trans ?_
  exact congrArg (Q o) (funext (Fin.forall_fin_two.mpr ⟨rfl, rfl⟩))

/-- The result so far: right on the rows of `c` and of its first `n` predecessors. -/
def outOk (blk : FVec F S32x512 .f32) (n : ℕ) (f : S256x512.Idx → Elt F .f32) : Prop :=
  ∀ i : S256x512.Idx, ((i 0).val / 32 = c.val ∨ ∃ d, d < n ∧ (i 0).val / 32 = (bwd c d).val) → f i = outV Q blk c i
def outPts (blk : FVec F S32x512 .f32) (n : ℕ) : sProp 𝕄 :=
  iprop(∃ f, ((Memref.whole cc0_stg5_0).view.loc (c : Thread nD τ) ↦{fullShare} f) ∗ ⌜outOk Q c blk n f⌝)

/-! ## The context's own rows and the own slots -/

/-- The own rows are loaded. -/
theorem step_load_rows {off : Fin 2 → ℕ} (h : off = ![32 * c.val, 0]) (inb hl) (f : S256x256.Idx → Elt F .bf16)
    {α : Type} {k : (S32x256.Idx → Elt F .bf16) → Prog (TpuEff nD τ sig (Elt F) Λ₀ .tc) α} {Kt : α → sProp 𝕄} :
    rowsPts c c f ⊢ iprop((rowsPts c c f -∗ wpc c (k ((rows c).view.read (Elt F) f)) Kt)
      -∗ wpc c (.op (.load (Memref.whole cc0_scratch2) (Rect.unit (s := S256x256) off S32x256.size inb).toLoadRect hl) k) Kt) := by
  subst h
  exact wp_load_rect 𝒱₀ (c : Thread nD τ) none Set.univ (m := Memref.whole cc0_scratch2) (r := Rect.unit (s := S256x256) ![32 * c.val, 0] S32x256.size inb)
    (S := (rows c).view.set) (Finset.Subset.refl _)

theorem acc1_set (s : Dev nD) : ((Memref.whole cc0_scratch5).access (Rect.unit (s := S8x32x256) ![s.val, 0, 0] S1x32x256.size (slot1_inb s))).set
    = (slot1 s).view.set := (View.set_reshape ..).symm
theorem acc2_set (s : Dev nD) : ((Memref.whole cc0_scratch6).access (Rect.unit (s := S8x32x512) ![s.val, 0, 0] S1x32x512.size (slot2_inb s))).set
    = (slot2 s).view.set := (View.set_reshape ..).symm

/-- The own first slot is loaded (the value is not used) -/
theorem step_load_slot1 {off : Fin 3 → ℕ} (h : off = ![c.val, 0, 0]) (inb hl) (f : S8x32x256.Idx → Elt F .bf16)
    {α : Type} {k : (S1x32x256.Idx → Elt F .bf16) → Prog (TpuEff nD τ sig (Elt F) Λ₀ .tc) α} {Kt : α → sProp 𝕄} :
    slot1Pts c c f ⊢ iprop((∀ x, slot1Pts c c f -∗ wpc c (k x) Kt)
      -∗ wpc c (.op (.load (Memref.whole cc0_scratch5) (Rect.unit (s := S8x32x256) off S1x32x256.size inb).toLoadRect hl) k) Kt) := by
  subst h
  iintro H
  iintro Hk
  iapply (wp_load_rect 𝒱₀ (c : Thread nD τ) none Set.univ (m := Memref.whole cc0_scratch5) (r := Rect.unit (s := S8x32x256) ![c.val, 0, 0] S1x32x256.size inb)
    (S := (slot1 c).view.set) (f := f) (acc1_set c).subset) $$ H
  iintro H
  iapply Hk; iexact H

/-- and stored. -/
theorem step_store_slot1 {off : Fin 3 → ℕ} (h : off = ![c.val, 0, 0]) (inb) (f : S8x32x256.Idx → Elt F .bf16)
    {w : S1x32x256.Idx → Elt F .bf16} (hw : w = k0_pay24 ((rows c).view.read (Elt F) (C c))) {hx hm}
    {α : Type} {k : PUnit → Prog (TpuEff nD τ sig (Elt F) Λ₀ .tc) α} {Kt : α → sProp 𝕄} :
    slot1Pts c c f ⊢ iprop((slot1Pts c c (land1 C c) -∗ wpc c (k ⟨⟩) Kt)
      -∗ wpc c (.op (.store (Memref.whole cc0_scratch5) (Rect.unit (s := S8x32x256) off S1x32x256.size inb) w Finset.univ hx hm) k) Kt) := by
  subst h hw
  iintro H
  iintro Hk
  iapply (wp_store 𝒱₀ (c : Thread nD τ) none Set.univ (m := Memref.whole cc0_scratch5) (r := Rect.unit (s := S8x32x256) ![c.val, 0, 0] S1x32x256.size inb)
    (S := (slot1 c).view.set) (f := f) (acc1_set c).subset) $$ H
  iintro H
  iapply Hk
  refine Entails.of_eq (pointsTo_congr fun i hi => ?_)
  rw [← write_slot1 C c c f i hi]
  obtain ⟨x, rfl⟩ := View.exists_emb_of_mem_set _ hi
  rw [View.write_emb_of_mem _ _ (Finset.mem_univ _)]
  have e : (slot1 c).view.emb x = ((Memref.whole cc0_scratch5).access (Rect.unit (s := S8x32x256) ![c.val, 0, 0] S1x32x256.size inb)).emb
      (Fin.cons ⟨0, Nat.one_pos⟩ x) := by
    rw [← Shape.reshapeEquiv_cons_one (d := ![32, 256]) squeezes_S1x32x256_S32x256.numel_eq x]; rfl
  rw [e, View.write_emb_of_mem _ _ (Finset.mem_univ _)]
  exact cast_add ((rows c).view.read (Elt F) (C c)) shapeCasts_S32x256_S1x32x256 shapeCasts_S1x32x256_S32x256 x

/-- The own second slot is loaded (the value is not used) -/
theorem step_load_own2 {off : Fin 3 → ℕ} (h : off = ![c.val, 0, 0]) (inb hl) (f : S8x32x512.Idx → Elt F .bf16)
    {α : Type} {k : (S1x32x512.Idx → Elt F .bf16) → Prog (TpuEff nD τ sig (Elt F) Λ₀ .tc) α} {Kt : α → sProp 𝕄} :
    slot2Pts c c fullShare f ⊢ iprop((∀ x, slot2Pts c c fullShare f -∗ wpc c (k x) Kt)
      -∗ wpc c (.op (.load (Memref.whole cc0_scratch6) (Rect.unit (s := S8x32x512) off S1x32x512.size inb).toLoadRect hl) k) Kt) := by
  subst h
  iintro H
  iintro Hk
  iapply (wp_load_rect 𝒱₀ (c : Thread nD τ) none Set.univ (m := Memref.whole cc0_scratch6) (r := Rect.unit (s := S8x32x512) ![c.val, 0, 0] S1x32x512.size inb)
    (S := (slot2 c).view.set) (f := f) (acc2_set c).subset) $$ H
  iintro H
  iapply Hk; iexact H

/-- and stored. -/
theorem step_store_own2 {off : Fin 3 → ℕ} (h : off = ![c.val, 0, 0]) (inb) (f : S8x32x512.Idx → Elt F .bf16)
    {w : S1x32x512.Idx → Elt F .bf16} (hw : w = shapeCast S1x32x512 (Q c) shapeCasts_S32x512_S1x32x512) {hx hm}
    {α : Type} {k : PUnit → Prog (TpuEff nD τ sig (Elt F) Λ₀ .tc) α} {Kt : α → sProp 𝕄} :
    slot2Pts c c fullShare f ⊢ iprop((slot2Pts c c fullShare (land2 Q) -∗ wpc c (k ⟨⟩) Kt)
      -∗ wpc c (.op (.store (Memref.whole cc0_scratch6) (Rect.unit (s := S8x32x512) off S1x32x512.size inb) w Finset.univ hx hm) k) Kt) := by
  subst h hw
  iintro H
  iintro Hk
  iapply (wp_store 𝒱₀ (c : Thread nD τ) none Set.univ (m := Memref.whole cc0_scratch6) (r := Rect.unit (s := S8x32x512) ![c.val, 0, 0] S1x32x512.size inb)
    (S := (slot2 c).view.set) (f := f) (acc2_set c).subset) $$ H
  iintro H
  iapply Hk
  refine Entails.of_eq (pointsTo_congr fun i hi => ?_)
  obtain ⟨x, rfl⟩ := View.exists_emb_of_mem_set _ hi
  have e : (slot2 c).view.emb x = ((Memref.whole cc0_scratch6).access (Rect.unit (s := S8x32x512) ![c.val, 0, 0] S1x32x512.size inb)).emb
      (Fin.cons ⟨0, Nat.one_pos⟩ x) := by
    rw [← Shape.reshapeEquiv_cons_one (d := ![32, 512]) squeezes_S1x32x512_S32x512.numel_eq x]; rfl
  obtain ⟨h0, h1, h2⟩ := slot2_emb_val c x
  have ev : land2 Q ((slot2 c).view.emb x) = Q c x := by
    unfold land2
    rw [show ((slot2 c).view.emb x : S8x32x512.Idx) 0 = c from Fin.ext h0]
    exact congrArg (Q c) (funext (Fin.forall_fin_two.mpr ⟨Fin.ext h1, Fin.ext h2⟩))
  rw [ev, e, View.write_emb_of_mem _ _ (Finset.mem_univ _)]
  exact cast_add (Q c) shapeCasts_S32x512_S1x32x512 shapeCasts_S1x32x512_S32x512 x

/-- The slot of the device `n + 1` places before `c` is loaded. -/
theorem step_load_slot2 (n : ℕ) {off : Fin 3 → ℕ} (h : off = ![((c.val + 7) - n) % 8, 0, 0]) (inb hl)
    {α : Type} {k : (S1x32x512.Idx → Elt F .bf16) → Prog (TpuEff nD τ sig (Elt F) Λ₀ .tc) α} {Kt : α → sProp 𝕄} :
    r2Pay Q c n ⊢ iprop((r2Pay Q c n -∗ wpc c (k (sent2 Q (bwd c n))) Kt)
      -∗ wpc c (.op (.load (Memref.whole cc0_scratch6) (Rect.unit (s := S8x32x512) off S1x32x512.size inb).toLoadRect hl) k) Kt) := by
  rw [show ((c.val + 7) - n) % 8 = (bwd c n).val from by rw [bwd_val]] at h
  subst h
  unfold r2Pay
  have e : ((Memref.whole cc0_scratch6).access (Rect.unit (s := S8x32x512) ![(bwd c n).val, 0, 0] S1x32x512.size inb)).read (Elt F) (land2 Q)
      = sent2 Q (bwd c n) := by
    funext y
    have g := ValueKit.view_emb_slice_whole_unit_val cc0_scratch6 ![(bwd c n).val, 0, 0] S1x32x512.size inb y
    show land2 Q (((Memref.whole cc0_scratch6).access (Rect.unit (s := S8x32x512) ![(bwd c n).val, 0, 0] S1x32x512.size inb)).emb y) = _
    unfold land2 sent2
    have h0 : (((Memref.whole cc0_scratch6).access (Rect.unit (s := S8x32x512) ![(bwd c n).val, 0, 0] S1x32x512.size inb)).emb y : S8x32x512.Idx) 0 = bwd c n :=
      Fin.ext ((g 0).trans (by
        have := (y 0).isLt; change (y 0).val < 1 at this
        show (bwd c n).val + (y 0).val = _; omega))
    rw [h0]
    refine congrArg (Q (bwd c n)) (funext (Fin.forall_fin_two.mpr ⟨Fin.ext ((g 1).trans ?_), Fin.ext ((g 2).trans ?_)⟩))
    · exact Nat.zero_add _
    · exact Nat.zero_add _
  rw [← e]
  exact wp_load_rect 𝒱₀ (c : Thread nD τ) none Set.univ (m := Memref.whole cc0_scratch6)
    (r := Rect.unit (s := S8x32x512) ![(bwd c n).val, 0, 0] S1x32x512.size inb) (S := (slot2 (bwd c n)).view.set) (acc2_set (bwd c n)).subset

/-! ## The result -/

/-- A block of the result is loaded (the value is not used). -/
theorem step_load_out {off : Fin 2 → ℕ} (inb hl) (f : S256x512.Idx → Elt F .f32)
    {α : Type} {k : (S32x512.Idx → Elt F .f32) → Prog (TpuEff nD τ sig (Elt F) Λ₀ .tc) α} {Kt : α → sProp 𝕄} :
    ((Memref.whole cc0_stg5_0).view.loc (c : Thread nD τ) ↦{fullShare} f : sProp 𝕄)
      ⊢ iprop((∀ x, ((Memref.whole cc0_stg5_0).view.loc (c : Thread nD τ) ↦{fullShare} f) -∗ wpc c (k x) Kt)
      -∗ wpc c (.op (.load (Memref.whole cc0_stg5_0) (Rect.unit (s := S256x512) off S32x512.size inb).toLoadRect hl) k) Kt) := by
  iintro H
  iintro Hk
  iapply (wp_load_rect 𝒱₀ (c : Thread nD τ) none Set.univ (m := Memref.whole cc0_stg5_0) (r := Rect.unit (s := S256x512) off S32x512.size inb)
    (S := Finset.univ) (f := f) (Finset.subset_univ _)) $$ H
  iintro H
  iapply Hk; iexact H

/-- The 32 rows of the result at `32 o`. -/
abbrev outRows (o : ℕ) (inb : ∀ a, (![32 * o, 0] : Fin 2 → ℕ) a + S32x512.size a ≤ S256x512.size a) : Memref sig .tc .vmem S32x512 .f32 :=
  (Memref.whole cc0_stg5_0).slice (Rect.unit (s := S256x512) ![32 * o, 0] S32x512.size inb) (fun _ => rfl)

/-- The rows a block of the result covers. -/
theorem mem_out {o : ℕ} {inb : ∀ a, (![32 * o, 0] : Fin 2 → ℕ) a + S32x512.size a ≤ S256x512.size a} {i : S256x512.Idx} :
    i ∈ (outRows o inb).view.set ↔ (i 0).val / 32 = o := by
  rw [show (outRows o inb).view.set
    = (Rect.unit (s := S256x512) ![32 * o, 0] S32x512.size inb).set from View.set_slice_whole .., Rect.mem_set_unit]
  have h1 := (i 1).isLt; change _ < 512 at h1
  refine ⟨fun h => ?_, fun h => Fin.forall_fin_two.mpr ⟨⟨?_, ?_⟩, ⟨Nat.zero_le _, ?_⟩⟩⟩
  · have h0 : 32 * o ≤ (i 0).val ∧ (i 0).val < 32 * o + 32 := h 0
    omega
  · show 32 * o ≤ _; omega
  · show _ < 32 * o + 32; omega
  · show _ < 0 + 512; omega

/-- What a store of a block of 32 rows leaves: the block there, the rest as before. -/
theorem write_out {o : ℕ} (inb : ∀ a, (![32 * o, 0] : Fin 2 → ℕ) a + S32x512.size a ≤ S256x512.size a) (f : S256x512.Idx → Elt F .f32) (w : S32x512.Idx → Elt F .f32) (i : S256x512.Idx) :
    (outRows o inb).view.write (Elt F) f w Finset.univ i
      = if (i 0).val / 32 = o then w (inBlock i) else f i := by
  by_cases hi : i ∈ (outRows o inb).view.set
  · rw [if_pos (mem_out.mp hi)]
    obtain ⟨x, rfl⟩ := View.exists_emb_of_mem_set _ hi
    rw [View.write_emb_of_mem _ _ (Finset.mem_univ _)]
    have g := ValueKit.view_emb_slice_whole_unit_val cc0_stg5_0 ![32 * o, 0] S32x512.size inb x
    have h0 := (x 0).isLt; change _ < 32 at h0
    refine congrArg w (funext (Fin.forall_fin_two.mpr ⟨Fin.ext ?_, Fin.ext ?_⟩))
    · refine Eq.symm ((congrArg (· % 32) (g 0)).trans ?_)
      show (32 * o + (x 0).val) % 32 = _; omega
    · refine Eq.symm ((g 1).trans ?_)
      show 0 + (x 1).val = _; omega
  · rw [if_neg fun h => hi (mem_out.mpr h)]
    exact View.write_of_not_mem _ _ _ fun h => hi h

/-- The own block is stored. -/
theorem step_store_out0 {off : Fin 2 → ℕ} (h : off = ![32 * c.val, 0]) (inb) (f : S256x512.Idx → Elt F .f32) (blk : FVec F S32x512 .f32) {hx hm}
    {α : Type} {k : PUnit → Prog (TpuEff nD τ sig (Elt F) Λ₀ .tc) α} {Kt : α → sProp 𝕄} :
    ((Memref.whole cc0_stg5_0).view.loc (c : Thread nD τ) ↦{fullShare} f : sProp 𝕄) ⊢ iprop((outPts Q c blk 0 -∗ wpc c (k ⟨⟩) Kt)
      -∗ wpc c (.op (.store (Memref.whole cc0_stg5_0) (Rect.unit (s := S256x512) off S32x512.size inb) blk Finset.univ hx hm) k) Kt) := by
  subst h
  iintro H
  iintro Hk
  iapply (wp_store 𝒱₀ (c : Thread nD τ) none Set.univ (m := Memref.whole cc0_stg5_0) (r := Rect.unit (s := S256x512) ![32 * c.val, 0] S32x512.size inb)
    (S := Finset.univ) (f := f) (Finset.subset_univ _)) $$ H
  iintro H
  iapply Hk
  unfold outPts
  iexists _
  isplitl [H]; · iexact H
  ipureintro
  intro i hi
  refine (write_out inb f blk i).trans ?_
  rcases hi with hi | ⟨d, hd, -⟩
  · unfold outV; rw [if_pos hi, if_pos hi]
  · exact absurd hd (Nat.not_lt_zero _)

/-- The block of the device `n + 1` places before `c` is stored. -/
theorem step_store_out (n : ℕ) (hn : n < 7) {off : Fin 2 → ℕ} (h : off = ![32 * (((c.val + 7) - n) % 8), 0]) (inb) (blk : FVec F S32x512 .f32)
    {w : S32x512.Idx → Elt F .f32} (hw : w = wide Q (bwd c n)) {hx hm}
    {α : Type} {k : PUnit → Prog (TpuEff nD τ sig (Elt F) Λ₀ .tc) α} {Kt : α → sProp 𝕄} :
    outPts Q c blk n ⊢ iprop((outPts Q c blk (n + 1) -∗ wpc c (k ⟨⟩) Kt)
      -∗ wpc c (.op (.store (Memref.whole cc0_stg5_0) (Rect.unit (s := S256x512) off S32x512.size inb) w Finset.univ hx hm) k) Kt) := by
  rw [show ((c.val + 7) - n) % 8 = (bwd c n).val from by rw [bwd_val]] at h
  subst h hw
  unfold outPts
  iintro ⟨%f, H, %hf⟩
  iintro Hk
  iapply (wp_store 𝒱₀ (c : Thread nD τ) none Set.univ (m := Memref.whole cc0_stg5_0) (r := Rect.unit (s := S256x512) ![32 * (bwd c n).val, 0] S32x512.size inb)
    (S := Finset.univ) (f := f) (Finset.subset_univ _)) $$ H
  iintro H
  iapply Hk
  iexists _
  isplitl [H]; · iexact H
  ipureintro
  intro i hi
  refine (write_out inb f (wide Q (bwd c n)) i).trans ?_
  by_cases hb : (i 0).val / 32 = (bwd c n).val
  · rw [if_pos hb]
    unfold outV
    have hne : ¬ (i 0).val / 32 = c.val := fun e => by
      have h1 := bwd_val c n; have := c.isLt; change c.val < 8 at this
      omega
    rw [if_neg hne, show rowDev (i 0).val (i 0).isLt = bwd c n from Fin.ext hb]
    rfl
  · rw [if_neg hb]
    refine hf i (hi.imp_right ?_)
    rintro ⟨d, hd, e⟩
    exact ⟨d, lt_of_le_of_ne (Nat.le_of_lt_succ hd) (fun h => hb (h ▸ e)), e⟩

/-- A block of the result so far is loaded (the value is not used). -/
theorem step_load_outN {off : Fin 2 → ℕ} (inb hl) (blk : FVec F S32x512 .f32) (n : ℕ)
    {α : Type} {k : (S32x512.Idx → Elt F .f32) → Prog (TpuEff nD τ sig (Elt F) Λ₀ .tc) α} {Kt : α → sProp 𝕄} :
    outPts Q c blk n ⊢ iprop((∀ x, outPts Q c blk n -∗ wpc c (k x) Kt)
      -∗ wpc c (.op (.load (Memref.whole cc0_stg5_0) (Rect.unit (s := S256x512) off S32x512.size inb).toLoadRect hl) k) Kt) := by
  unfold outPts
  iintro ⟨%f, H, %hf⟩
  iintro Hk
  iapply (step_load_out c inb hl f) $$ H
  iintro %x H
  iapply Hk
  iexists f
  isplitl [H]; · iexact H
  ipureintro; exact hf

end Cert.KernelIdeal.Talk

end
-- ==== Proof.Body2.lean ====
module

public import proofs.«01_k».proof.Proof.Body1
public import proofs.«01_k».proof.Proof.Hand

/-!
# The body, second half: the rest of the first exchange, the block, the second exchange

Each printed part of the kernel's body, run at a symbolic device `c`.
-/

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Dev nD → S256x256.Idx → Elt F .bf16) (Q : Dev nD → S32x512.Idx → Elt F .bf16) (K : GSem nD τ sig → ℕ) (c : Dev nD)

theorem credit1 {dst : Memref sig .tc .vmem S32x256 .bf16} {s : Dev nD} (h : dst = slot1 s) : dst.view.dmaCredit = N1 := by subst h; rfl
theorem creditS1 {dst : Memref sig .tc .vmem S32x256 .bf16} {s : Dev nD} (h : dst = rows s) : dst.view.dmaCredit = N1 := by subst h; rfl
theorem credit2 {dst : Memref sig .tc .vmem S32x512 .bf16} {s : Dev nD} (h : dst = slot2 s) : dst.view.dmaCredit = N2 := by subst h; rfl
theorem read_wo (x : S2048x512.Idx → Elt F .bf16) :
    View.readAt (Elt F) (Memref.whole cc0_stg4_0).view (Rect.unit (s := S2048x512) ![0, 0] S2048x512.size inb_S2048x512_S2048x512_0_0).toLoadRect x = x :=
  View.readAt_full (Memref.whole cc0_stg4_0).view x _

/-! ## The rest of the first exchange -/

/-- The last copy, the own rows into the own slot, the output weights, and the first wait. -/
theorem run10 (v2 v240 v252 v312 c32 : BitVec 32) (wo : S2048x512.Idx → Elt F .bf16) (f10 : S2048x512.Idx → Elt F .bf16)
    (f11 : S8x32x256.Idx → Elt F .bf16) (Kt : _ → sProp 𝕄) :
    iprop(records C Q K c ∗ owesE c (owed c 7 6 0) ∗ bigSep (Finset.Ico 6 7) (give1 C c) ∗ bigSep (Finset.range 6) (cred1 c)
        ∗ rowsPts c c (C c) ∗ slot1Pts c c f11 ∗ bWo c wo ∗ bWob c f10 ∗ bigSep (Finset.Ico 0 7) (wait1 c) ∗ bigSep (Finset.range 0) (done1 C c))
      ⊢ iprop((∀ w, (owesE c (owed c 7 7 0) ∗ bigSep (Finset.range 7) (cred1 c)
              ∗ rowsPts c c (C c) ∗ slot1Pts c c (land1 C c) ∗ bWo c wo ∗ bWob c (k0_pay25 wo)
              ∗ bigSep (Finset.Ico 1 7) (wait1 c) ∗ bigSep (Finset.range 1) (done1 C c)) -∗ Kt w)
          -∗ wpc c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v240 v252 v312 c32) Kt) := by
  rw [k0_part10_eq_skeleton]; unfold k0_part10_skel
  simp (config := {proj := false}) only [Prog.lift, Prog.bind_op, Prog.bind_ret, Prog.pure_eq_ret, Prog.bind_assoc]
  unfold bWo bWob
  iintro ⟨#HR, HO, HG, Hcr, Hrow, Hs, H4, H10, HW, HD⟩
  iintro Hk
  iapply (step_send1 C Q K c 6 (by decide) (src_rows c 6 (k0_off2_eq c 6) _ _) (dst_slot1 c (k0_off1_eq c) _ _)
    (dev_fwd c _ 6 (k0_dev14_eq c)) rfl rfl) $$ [$HR $HO $HG $Hcr]
  iintro ⟨HO, -, Hcr⟩
  iapply (step_load_rows c (k0_off3_eq c) _ _ (C c)) $$ Hrow
  iintro Hrow
  iapply (step_load_slot1 c (k0_off4_eq c) _ _ f11) $$ Hs
  iintro %x Hs
  iapply (step_store_slot1 C c (k0_off4_eq c) _ f11 rfl) $$ Hs
  iintro Hs
  unfold wpc
  sl_exec
  rw [put_full cc0_scratch4 (size := S2048x512.size) (k0_pay25 wo) f10 _ _ _ rfl (by rw [read_wo])]
  iapply (step_recv1 C Q K c 0 (by decide) rfl (credit1 (dst_slot1 c (k0_off1_eq c) _ _))) $$ [$HR $HO $HW $HD]
  iintro ⟨HO, HW, HD⟩
  iapply (wpc_ret c _ Kt)
  iapply Hk $$ [$HO $Hcr $Hrow $Hs $H4 $H10 $HW $HD]

/-- Four more waits. -/
theorem run11 (v264 v276 v288 v300 v342 w0 : BitVec 32) (Kt : _ → sProp 𝕄) :
    iprop(records C Q K c ∗ owesE c (owed c 7 7 0) ∗ bigSep (Finset.Ico 1 7) (wait1 c) ∗ bigSep (Finset.range 1) (done1 C c))
      ⊢ iprop((∀ w, (owesE c (owed c 7 7 0) ∗ bigSep (Finset.Ico 5 7) (wait1 c) ∗ bigSep (Finset.range 5) (done1 C c)) -∗ Kt w)
          -∗ wpc c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v264 v276 v288 v300 v342 w0) Kt) := by
  rw [k0_part11_eq_skeleton]; unfold k0_part11_skel
  simp (config := {proj := false}) only [Prog.lift, Prog.bind_op, Prog.bind_ret, Prog.pure_eq_ret, Prog.bind_assoc]
  iintro ⟨#HR, HO, HW, HD⟩
  iintro Hk
  iapply (step_recv1 C Q K c 1 (by decide) rfl (credit1 (dst_slot1 c (k0_off1_eq c) _ _))) $$ [$HR $HO $HW $HD]
  iintro ⟨HO, HW, HD⟩
  iapply (step_recv1 C Q K c 2 (by decide) rfl (credit1 (dst_slot1 c (k0_off1_eq c) _ _))) $$ [$HR $HO $HW $HD]
  iintro ⟨HO, HW, HD⟩
  iapply (step_recv1 C Q K c 3 (by decide) rfl (credit1 (dst_slot1 c (k0_off1_eq c) _ _))) $$ [$HR $HO $HW $HD]
  iintro ⟨HO, HW, HD⟩
  iapply (step_recv1 C Q K c 4 (by decide) rfl (credit1 (dst_slot1 c (k0_off1_eq c) _ _))) $$ [$HR $HO $HW $HD]
  iintro ⟨HO, HW, HD⟩
  iapply (wpc_ret c _ Kt)
  iapply Hk $$ [$HO $HW $HD]

/-- After the seven waits the first landing buffer is whole. -/
theorem join1 :
    iprop(slot1Pts c c (land1 C c) ∗ bigSep (Finset.range 7) (done1 C c))
      ⊢ iprop((bigSep (Finset.range 7) fun d => atPos ER (r1Cell c d) 1 ∅ 0) ∗ bP1 c (land1 C c)) := by
  have h : (bP1 c (land1 C c) : sProp 𝕄) = _ := Ring.pointsTo_blocks (q := fullShare) (ℓ := (Memref.whole cc0_scratch5).view.loc (c : Thread nD τ))
    (fun s : Dev nD => (slot1 s).view.set) slot1_disjoint slot1_cover (land1 C c)
  rw [h, bigSep_bwd c, show bigSep (Finset.range 7) (done1 (F := F) C c)
    = iprop((bigSep (Finset.range 7) fun d => atPos ER (r1Cell c d) 1 ∅ 0) ∗ bigSep (Finset.range 7) (r1Pay C c)) from bigSep_sep _ _ _]
  iintro ⟨Hs, Ha, Hd⟩
  isplitl [Ha]; · iexact Ha
  isplitl [Hs]; · iexact Hs
  iexact Hd

/-- The strip so far: right on the columns of the first `n` devices. -/
def stripOk (n : ℕ) (g : S32x2048.Idx → Elt F .bf16) : Prop := ∀ i : S32x2048.Idx, (i 1).val < 256 * n → g i = stripV C c i

/-- One more device's columns. -/
theorem strip_put (n : ℕ) {g : S32x2048.Idx → Elt F .bf16} (hg : stripOk C c n g) {off : Fin 3 → ℕ} (h : off = ![n, 0, 0]) (inb)
    {off' : Fin 2 → ℕ} (h' : off' = ![0, 256 * n])
    (pay : (S1x32x256.Idx → Elt F .bf16) → S32x256.Idx → Elt F .bf16) (hp : pay = k0_pay26) :
    stripOk C c (n + 1) (VecWindow.put (s := S32x2048) g off' S32x256.size
      (pay (View.readAt (Elt F) (Memref.whole cc0_scratch5).view (Rect.unit (s := S8x32x256) off S1x32x256.size inb).toLoadRect (land1 C c)))) := by
  subst h h' hp
  intro i hi
  have i0 := (i 0).isLt; change (i 0).val < 32 at i0
  unfold VecWindow.put
  by_cases hw : ∀ a, (![0, 256 * n] : Fin 2 → ℕ) a ≤ (i a).val ∧ (i a).val < (![0, 256 * n] : Fin 2 → ℕ) a + S32x256.size a
  · rw [dif_pos hw]
    have hw1 : 256 * n ≤ (i 1).val ∧ (i 1).val < 256 * n + 256 := hw 1
    unfold k0_pay26
    dsimp only
    rw [shapeCast_self]
    refine (cast_drop _ shapeCasts_S1x32x256_S32x256 _).trans ?_
    unfold stripV
    show land1 C c _ = _
    refine congrArg (land1 C c) (funext (Fin.forall_fin_succ.mpr ⟨Fin.ext ?_, Fin.forall_fin_two.mpr ⟨Fin.ext ?_, Fin.ext ?_⟩⟩))
    · show n + 1 * 0 = (i 1).val / 256; omega
    · show 0 + 1 * ((i 0).val - 0) = (i 0).val; omega
    · show 0 + 1 * ((i 1).val - 256 * n) = (i 1).val % 256; omega
  · rw [dif_neg hw]
    refine hg i (lt_of_not_ge fun hge => hw (Fin.forall_fin_two.mpr ⟨⟨Nat.zero_le _, ?_⟩, ⟨hge, ?_⟩⟩))
    · show (i 0).val < 0 + 32; omega
    · show (i 1).val < 256 * n + 256; omega

theorem strip_all {g : S32x2048.Idx → Elt F .bf16} (hg : stripOk C c 8 g) : g = stripV C c :=
  funext fun i => hg i (i 1).isLt

/-- The last two waits, and the columns of the first three devices. -/
theorem run12 (v312 v370 w0 : BitVec 32) (f9 : S32x2048.Idx → Elt F .bf16) (Kt : _ → sProp 𝕄) :
    iprop(records C Q K c ∗ owesE c (owed c 7 7 0) ∗ bigSep (Finset.Ico 5 7) (wait1 c) ∗ bigSep (Finset.range 5) (done1 C c)
        ∗ slot1Pts c c (land1 C c) ∗ bStrip c f9)
      ⊢ iprop(((owesE c (owed c 7 7 0) ∗ (bigSep (Finset.range 7) fun d => atPos ER (r1Cell c d) 1 ∅ 0) ∗ bP1 c (land1 C c)
              ∗ ∃ g, ⌜stripOk C c 3 g⌝ ∗ bStrip c g) -∗ Kt ⟨⟩)
          -∗ wpc c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v312 v370 w0) Kt) := by
  rw [k0_part12_eq_skeleton]; unfold k0_part12_skel
  simp (config := {proj := false}) only [Prog.lift, Prog.bind_op, Prog.bind_ret, Prog.pure_eq_ret, Prog.bind_assoc]
  unfold bStrip
  iintro ⟨#HR, HO, HW, HD, Hs, H9⟩
  iintro Hk
  iapply (step_recv1 C Q K c 5 (by decide) rfl (credit1 (dst_slot1 c (k0_off1_eq c) _ _))) $$ [$HR $HO $HW $HD]
  iintro ⟨HO, HW, HD⟩
  iapply (step_recv1 C Q K c 6 (by decide) rfl (credit1 (dst_slot1 c (k0_off1_eq c) _ _))) $$ [$HR $HO $HW $HD]
  iintro ⟨HO, -, HD⟩
  ihave HJ := (join1 C c) $$ [$Hs $HD]
  unfold bP1
  icases HJ with ⟨Ha, H11⟩
  unfold wpc
  sl_exec
  rw [put_whole cc0_scratch3, put_whole cc0_scratch3, put_whole cc0_scratch3, View.writes_nil]
  iapply (wpc_ret c _ Kt)
  iapply Hk
  isplitl [HO]; · iexact HO
  isplitl [Ha]; · iexact Ha
  isplitl [H11]; · iexact H11
  iexists _
  isplitr [H9]
  rotate_left
  · iexact H9
  ipureintro
  exact strip_put C c 2 (strip_put C c 1 (strip_put C c 0 (fun i hi => absurd hi (Nat.not_lt_zero _)) rfl _ rfl k0_pay26 rfl) rfl _ rfl k0_pay27 rfl) rfl _ rfl k0_pay28 rfl

theorem read_strip (x : S32x2048.Idx → Elt F .bf16) :
    View.readAt (Elt F) (Memref.whole cc0_scratch3).view (Rect.unit (s := S32x2048) ![0, 0] S32x2048.size inb_S32x2048_S32x2048_0_0).toLoadRect x = x :=
  View.readAt_full (Memref.whole cc0_scratch3).view x _
theorem read_wob (x : S2048x512.Idx → Elt F .bf16) :
    View.readAt (Elt F) (Memref.whole cc0_scratch4).view (Rect.unit (s := S2048x512) ![0, 0] S2048x512.size inb_S2048x512_S2048x512_0_0).toLoadRect x = x :=
  View.readAt_full (Memref.whole cc0_scratch4).view x _

/-- The columns of the other five. -/
theorem run13 (wob : S2048x512.Idx → Elt F .bf16) (g : S32x2048.Idx → Elt F .bf16) (hg : stripOk C c 3 g) (Kt : _ → sProp 𝕄) :
    iprop(bP1 c (land1 C c) ∗ bStrip c g ∗ bWob c wob)
      ⊢ iprop(((bP1 c (land1 C c) ∗ bStrip c (stripV C c) ∗ bWob c wob) -∗ Kt ⟨stripV C c, wob, constant S32x512 .f32 0x00000000#32⟩)
          -∗ wpc c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt) := by
  rw [k0_part13_eq_skeleton]; unfold k0_part13_skel
  simp (config := {proj := false}) only [Prog.lift, Prog.bind_op, Prog.bind_ret, Prog.pure_eq_ret, Prog.bind_assoc]
  unfold bStrip bWob bP1 wpc
  iintro ⟨H11, H9, H10⟩
  iintro Hk
  sl_exec
  unfold run13.sl.H9_5
  rw [put_whole cc0_scratch3, put_whole cc0_scratch3, put_whole cc0_scratch3, put_whole cc0_scratch3, put_whole cc0_scratch3, View.writes_nil]
  rw [read_strip, read_wob]
  have e := strip_all C c (strip_put C c 7 (strip_put C c 6 (strip_put C c 5 (strip_put C c 4 (strip_put C c 3 hg
    (off := ![3, 0, 0]) rfl inb_S8x32x256_S1x32x256_3_0_0 (off' := ![0, 768]) rfl k0_pay29 rfl)
    (off := ![4, 0, 0]) rfl inb_S8x32x256_S1x32x256_4_0_0 (off' := ![0, 1024]) rfl k0_pay30 rfl)
    (off := ![5, 0, 0]) rfl inb_S8x32x256_S1x32x256_5_0_0 (off' := ![0, 1280]) rfl k0_pay31 rfl)
    (off := ![6, 0, 0]) rfl inb_S8x32x256_S1x32x256_6_0_0 (off' := ![0, 1536]) rfl k0_pay32 rfl)
    (off := ![7, 0, 0]) rfl inb_S8x32x256_S1x32x256_7_0_0 (off' := ![0, 1792]) rfl k0_pay33 rfl)
  ihave H9 := (Entails.of_eq (congrArg (fun z => (bStrip c z : sProp 𝕄)) e)) $$ H9
  iapply (wp_ret_of_eq c (b := ⟨stripV C c, wob, constant S32x512 .f32 0x00000000#32⟩)
    (congrArg (fun z => (⟨z, wob, constant S32x512 .f32 0x00000000#32⟩ : Σ' (_ : Vec F S32x2048 .bf16) (_ : Vec F S2048x512 .bf16), FVec F S32x512 .f32)) e) Kt)
  iapply Hk $$ [$H11 $H9 $H10]

/-! ## The block, and the second exchange -/

/-- The own slot in full is what stays and a share for each copy. -/
theorem split2 :
    (slot2Pts c c fullShare (land2 Q) : sProp 𝕄)
      ⊢ iprop(slot2Pts c c (shareDrop fullShare 7) (land2 Q) ∗ bigSep (Finset.range 7) fun d => slot2Pts c c (shareTokN fullShare d) (land2 Q)) :=
  (Transfers.pointsTo_toks_range fullShare 7).1
theorem unsplit2 :
    iprop(slot2Pts c c (shareDrop fullShare 7) (land2 Q) ∗ bigSep (Finset.range 7) fun d => slot2Pts c c (shareTokN fullShare d) (land2 Q))
      ⊢ (slot2Pts c c fullShare (land2 Q) : sProp 𝕄) :=
  (Transfers.pointsTo_toks_range fullShare 7).2

/-- What the copies of the second exchange take, put together. -/
theorem gather2 :
    iprop(bigSep (Finset.range 7) (toks2 (F := F) c) ∗ (bigSep (Finset.range 7) fun d => slot2Pts c c (shareTokN fullShare d) (land2 Q))
        ∗ bigSep (Finset.range 7) (got2 c))
      ⊢ bigSep (Finset.Ico 0 7) (give2 Q c) := by
  rw [← Finset.range_eq_Ico]
  exact BI.Entails.trans (BI.sep_mono (BI.Entails.refl _) (Entails.of_eq (bigSep_sep _ _ _).symm)) (Entails.of_eq (bigSep_sep _ _ _).symm)

/-- The block into the own slot, and the first two copies. -/
theorem run14 (v2 : BitVec 32) (wo : S2048x512.Idx → Elt F .bf16) (hQ : Q c = finV C wo c) (f12 : S8x32x512.Idx → Elt F .bf16) (Kt : _ → sProp 𝕄) :
    iprop(records C Q K c ∗ owesE c (owed c 7 7 0) ∗ slot2Pts c c fullShare f12 ∗ bigSep (Finset.range 7) (toks2 c) ∗ bigSep (Finset.range 7) (got2 c)
        ∗ bigSep (Finset.range 0) (cred2 c))
      ⊢ iprop((∀ a b d, (owesE c (owed c 7 7 2) ∗ slot2Pts c c (shareDrop fullShare 7) (land2 Q) ∗ bigSep (Finset.Ico 2 7) (give2 Q c)
              ∗ bigSep (Finset.range 2) (cred2 c)) -∗ Kt ⟨k0_pay34 (stripV C c) (k0_pay25 wo) (constant S32x512 .f32 0x00000000#32), a, b, d⟩)
          -∗ wpc c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 (stripV C c) (k0_pay25 wo) (constant S32x512 .f32 0x00000000#32)) Kt) := by
  rw [k0_part14_eq_skeleton]; unfold k0_part14_skel
  simp (config := {proj := false}) only [Prog.lift, Prog.bind_op, Prog.bind_ret, Prog.pure_eq_ret, Prog.bind_assoc]
  iintro ⟨#HR, HO, Hs, Ht, Hg, Hcr⟩
  iintro Hk
  iapply (step_load_own2 c (k0_off5_eq c) _ _ f12) $$ Hs
  iintro %x Hs
  iapply (step_store_own2 Q c (k0_off5_eq c) _ f12 (by rw [hQ]; rfl)) $$ Hs
  iintro Hs
  ihave Hs := (split2 Q c) $$ Hs
  icases Hs with ⟨Hs, Hss⟩
  ihave HG := (gather2 Q c) $$ [$Ht $Hss $Hg]
  iapply (step_send2 C Q K c 0 (by decide) (dst_slot2 c (k0_off6_eq c) _ _) (dst_slot2 c (k0_off6_eq c) _ _)
    (dev_fwd c _ 0 (k0_dev15_eq c)) rfl rfl) $$ [$HR $HO $HG $Hcr]
  iintro ⟨HO, HG, Hcr⟩
  iapply (step_send2 C Q K c 1 (by decide) (dst_slot2 c (k0_off6_eq c) _ _) (dst_slot2 c (k0_off6_eq c) _ _)
    (dev_fwd c _ 1 (k0_dev16_eq c)) rfl rfl) $$ [$HR $HO $HG $Hcr]
  iintro ⟨HO, HG, Hcr⟩
  iapply (wpc_ret c _ Kt)
  iapply Hk $$ [$HO $Hs $HG $Hcr]

/-- Two more copies. -/
theorem run15 (v2 v457 : BitVec 32) (Kt : _ → sProp 𝕄) :
    iprop(records C Q K c ∗ owesE c (owed c 7 7 2) ∗ bigSep (Finset.Ico 2 7) (give2 Q c) ∗ bigSep (Finset.range 2) (cred2 c))
      ⊢ iprop((∀ w, (owesE c (owed c 7 7 4) ∗ bigSep (Finset.Ico 4 7) (give2 Q c) ∗ bigSep (Finset.range 4) (cred2 c)) -∗ Kt w)
          -∗ wpc c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v457) Kt) := by
  rw [k0_part15_eq_skeleton]; unfold k0_part15_skel
  simp (config := {proj := false}) only [Prog.lift, Prog.bind_op, Prog.bind_ret, Prog.pure_eq_ret, Prog.bind_assoc]
  iintro ⟨#HR, HO, HG, Hcr⟩
  iintro Hk
  iapply (step_send2 C Q K c 2 (by decide) (dst_slot2 c (k0_off6_eq c) _ _) (dst_slot2 c (k0_off6_eq c) _ _)
    (dev_fwd c _ 2 (k0_dev17_eq c)) rfl rfl) $$ [$HR $HO $HG $Hcr]
  iintro ⟨HO, HG, Hcr⟩
  iapply (step_send2 C Q K c 3 (by decide) (dst_slot2 c (k0_off6_eq c) _ _) (dst_slot2 c (k0_off6_eq c) _ _)
    (dev_fwd c _ 3 (k0_dev18_eq c)) rfl rfl) $$ [$HR $HO $HG $Hcr]
  iintro ⟨HO, HG, Hcr⟩
  iapply (wpc_ret c _ Kt)
  iapply Hk $$ [$HO $HG $Hcr]

/-- The last three copies, and the own block into the result. -/
theorem run16 (v2 v433 : BitVec 32) (blk : FVec F S32x512 .f32) (f5 : S256x512.Idx → Elt F .f32) (Kt : _ → sProp 𝕄) :
    iprop(records C Q K c ∗ owesE c (owed c 7 7 4) ∗ bigSep (Finset.Ico 4 7) (give2 Q c) ∗ bigSep (Finset.range 4) (cred2 c) ∗ bOut c f5)
      ⊢ iprop((∀ w, (owesE c 0 ∗ bigSep (Finset.range 7) (cred2 c) ∗ outPts Q c blk 0) -∗ Kt w)
          -∗ wpc c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 blk v433) Kt) := by
  rw [k0_part16_eq_skeleton]; unfold k0_part16_skel
  simp (config := {proj := false}) only [Prog.lift, Prog.bind_op, Prog.bind_ret, Prog.pure_eq_ret, Prog.bind_assoc]
  unfold bOut
  iintro ⟨#HR, HO, HG, Hcr, H5⟩
  iintro Hk
  iapply (step_send2 C Q K c 4 (by decide) (dst_slot2 c (k0_off6_eq c) _ _) (dst_slot2 c (k0_off6_eq c) _ _)
    (dev_fwd c _ 4 (k0_dev19_eq c)) rfl rfl) $$ [$HR $HO $HG $Hcr]
  iintro ⟨HO, HG, Hcr⟩
  iapply (step_send2 C Q K c 5 (by decide) (dst_slot2 c (k0_off6_eq c) _ _) (dst_slot2 c (k0_off6_eq c) _ _)
    (dev_fwd c _ 5 (k0_dev20_eq c)) rfl rfl) $$ [$HR $HO $HG $Hcr]
  iintro ⟨HO, HG, Hcr⟩
  iapply (step_send2 C Q K c 6 (by decide) (dst_slot2 c (k0_off6_eq c) _ _) (dst_slot2 c (k0_off6_eq c) _ _)
    (dev_fwd c _ 6 (k0_dev21_eq c)) rfl rfl) $$ [$HR $HO $HG $Hcr]
  rw [owed_done c]
  iintro ⟨HO, -, Hcr⟩
  iapply (step_load_out c _ _ f5) $$ H5
  iintro %x H5
  iapply (step_store_out0 Q c (k0_off7_eq c) _ f5 blk) $$ H5
  iintro H5
  iapply (wpc_ret c _ Kt)
  iapply Hk $$ [$HO $Hcr $H5]

/-! ## The other devices' blocks -/

/-- What a wait on a second receive cell leaves, gathered. -/
theorem got_done2 (n : ℕ) :
    iprop(atPos ER (r2Cell c n) 1 ∅ 0 ∗ r2Pay Q c n ∗ bigSep (Finset.range n) (done2 Q c)) ⊢ bigSep (Finset.range (n + 1)) (done2 Q c) := by
  rw [grow]; unfold done2
  iintro ⟨Ha, Hs, HD⟩
  isplitr [HD]
  · isplitl [Ha]; · iexact Ha
    iexact Hs
  iexact HD

/-- The block at distance 1 in place, and the one at distance 2 read. -/
theorem run17 (v2 v445 v519 : BitVec 32) (blk : FVec F S32x512 .f32) (Kt : _ → sProp 𝕄) :
    iprop(records C Q K c ∗ owesE c 0 ∗ bigSep (Finset.Ico 0 7) (wait2 c) ∗ bigSep (Finset.range 0) (done2 Q c) ∗ outPts Q c blk 0)
      ⊢ iprop((∀ a, (owesE c 0 ∗ bigSep (Finset.Ico 2 7) (wait2 c) ∗ bigSep (Finset.range 2) (done2 Q c) ∗ outPts Q c blk 1)
            -∗ Kt ⟨a, wide Q (bwd c 1)⟩)
          -∗ wpc c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v445 v519) Kt) := by
  rw [k0_part17_eq_skeleton]; unfold k0_part17_skel
  simp (config := {proj := false}) only [Prog.lift, Prog.bind_op, Prog.bind_ret, Prog.pure_eq_ret, Prog.bind_assoc]
  iintro ⟨#HR, HO, HW, HD, H5⟩
  iintro Hk
  iapply (step_recv2 C Q K c 0 (by decide) rfl (credit2 (dst_slot2 c (k0_off6_eq c) _ _))) $$ [$HR $HO $HW]
  iintro ⟨HO, HW, Ha, Hs⟩
  iapply (step_load_slot2 Q c 0 (k0_off8_eq c 0) _ _) $$ Hs
  iintro Hs
  ihave HD := (got_done2 Q c 0) $$ [$Ha $Hs $HD]
  iapply (step_load_outN Q c _ _ blk 0) $$ H5
  iintro %x H5
  iapply (step_store_out Q c 0 (by decide) (k0_off9_eq c 0) _ blk (wide_of_cast Q (bwd c 0) _)) $$ H5
  iintro H5
  iapply (step_recv2 C Q K c 1 (by decide) rfl (credit2 (dst_slot2 c (k0_off6_eq c) _ _))) $$ [$HR $HO $HW]
  iintro ⟨HO, HW, Ha, Hs⟩
  iapply (step_load_slot2 Q c 1 (k0_off8_eq c 1) _ _) $$ Hs
  iintro Hs
  ihave HD := (got_done2 Q c 1) $$ [$Ha $Hs $HD]
  rw [show k0_pay37 (sent2 Q (bwd c 1)) = wide Q (bwd c 1) from wide_of_cast Q (bwd c 1) _]
  iapply (wpc_ret c _ Kt)
  iapply Hk $$ [$HO $HW $HD $H5]

/-- The blocks at distances 2 and 3, and the wait for the next. -/
theorem run18 (v2 v457 v469 v547 : BitVec 32) (blk : FVec F S32x512 .f32) (Kt : _ → sProp 𝕄) :
    iprop(records C Q K c ∗ owesE c 0 ∗ bigSep (Finset.Ico 2 7) (wait2 c) ∗ bigSep (Finset.range 2) (done2 Q c) ∗ outPts Q c blk 1)
      ⊢ iprop((∀ a, (owesE c 0 ∗ bigSep (Finset.Ico 4 7) (wait2 c) ∗ bigSep (Finset.range 3) (done2 Q c)
              ∗ (atPos ER (r2Cell c 3) 1 ∅ 0 ∗ r2Pay Q c 3) ∗ outPts Q c blk 3)
            -∗ Kt a)
          -∗ wpc c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v457 v469 v547 (wide Q (bwd c 1))) Kt) := by
  rw [k0_part18_eq_skeleton]; unfold k0_part18_skel
  simp (config := {proj := false}) only [Prog.lift, Prog.bind_op, Prog.bind_ret, Prog.pure_eq_ret, Prog.bind_assoc]
  iintro ⟨#HR, HO, HW, HD, H5⟩
  iintro Hk
  iapply (step_load_outN Q c _ _ blk 1) $$ H5
  iintro %x H5
  iapply (step_store_out Q c 1 (by decide) (k0_off9_eq c 1) _ blk rfl) $$ H5
  iintro H5
  iapply (step_recv2 C Q K c 2 (by decide) rfl (credit2 (dst_slot2 c (k0_off6_eq c) _ _))) $$ [$HR $HO $HW]
  iintro ⟨HO, HW, Ha, Hs⟩
  iapply (step_load_slot2 Q c 2 (k0_off8_eq c 2) _ _) $$ Hs
  iintro Hs
  ihave HD := (got_done2 Q c 2) $$ [$Ha $Hs $HD]
  iapply (step_load_outN Q c _ _ blk 2) $$ H5
  iintro %x H5
  iapply (step_store_out Q c 2 (by decide) (k0_off9_eq c 2) _ blk (wide_of_cast Q (bwd c 2) _)) $$ H5
  iintro H5
  iapply (step_recv2 C Q K c 3 (by decide) rfl (credit2 (dst_slot2 c (k0_off6_eq c) _ _))) $$ [$HR $HO $HW]
  iintro ⟨HO, HW, Ha, Hs⟩
  iapply (wpc_ret c _ Kt)
  iapply Hk $$ [$HO $HW $HD $Ha $Hs $H5]

/-- The blocks at distances 4 and 5. -/
theorem run19 (v2 v481 v493 v581 : BitVec 32) (blk : FVec F S32x512 .f32) (Kt : _ → sProp 𝕄) :
    iprop(records C Q K c ∗ owesE c 0 ∗ bigSep (Finset.Ico 4 7) (wait2 c) ∗ bigSep (Finset.range 3) (done2 Q c)
        ∗ (atPos ER (r2Cell c 3) 1 ∅ 0 ∗ r2Pay Q c 3) ∗ outPts Q c blk 3)
      ⊢ iprop(((owesE c 0 ∗ bigSep (Finset.Ico 5 7) (wait2 c) ∗ bigSep (Finset.range 5) (done2 Q c) ∗ outPts Q c blk 5) -∗ Kt ⟨⟩)
          -∗ wpc c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v481 v493 v581) Kt) := by
  rw [k0_part19_eq_skeleton]; unfold k0_part19_skel
  simp (config := {proj := false}) only [Prog.lift, Prog.bind_op, Prog.bind_ret, Prog.pure_eq_ret, Prog.bind_assoc]
  iintro ⟨#HR, HO, HW, HD, ⟨Ha, Hs⟩, H5⟩
  iintro Hk
  iapply (step_load_slot2 Q c 3 (k0_off8_eq c 3) _ _) $$ Hs
  iintro Hs
  ihave HD := (got_done2 Q c 3) $$ [$Ha $Hs $HD]
  iapply (step_load_outN Q c _ _ blk 3) $$ H5
  iintro %x H5
  iapply (step_store_out Q c 3 (by decide) (k0_off9_eq c 3) _ blk (wide_of_cast Q (bwd c 3) _)) $$ H5
  iintro H5
  iapply (step_recv2 C Q K c 4 (by decide) rfl (credit2 (dst_slot2 c (k0_off6_eq c) _ _))) $$ [$HR $HO $HW]
  iintro ⟨HO, HW, Ha, Hs⟩
  iapply (step_load_slot2 Q c 4 (k0_off8_eq c 4) _ _) $$ Hs
  iintro Hs
  ihave HD := (got_done2 Q c 4) $$ [$Ha $Hs $HD]
  iapply (step_load_outN Q c _ _ blk 4) $$ H5
  iintro %x H5
  iapply (step_store_out Q c 4 (by decide) (k0_off9_eq c 4) _ blk (wide_of_cast Q (bwd c 4) _)) $$ H5
  iintro H5
  iapply (wpc_ret c _ Kt)
  iapply Hk $$ [$HO $HW $HD $H5]

/-- The block at distance 6, and the last one read. -/
theorem run20 (v2 v505 : BitVec 32) (blk : FVec F S32x512 .f32) (Kt : _ → sProp 𝕄) :
    iprop(records C Q K c ∗ owesE c 0 ∗ bigSep (Finset.Ico 5 7) (wait2 c) ∗ bigSep (Finset.range 5) (done2 Q c) ∗ outPts Q c blk 5)
      ⊢ iprop(((owesE c 0 ∗ bigSep (Finset.range 7) (done2 Q c) ∗ outPts Q c blk 6) -∗ Kt (wide Q (bwd c 6)))
          -∗ wpc c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v505) Kt) := by
  rw [k0_part20_eq_skeleton]; unfold k0_part20_skel
  simp (config := {proj := false}) only [Prog.lift, Prog.bind_op, Prog.bind_ret, Prog.pure_eq_ret, Prog.bind_assoc]
  iintro ⟨#HR, HO, HW, HD, H5⟩
  iintro Hk
  iapply (step_recv2 C Q K c 5 (by decide) rfl (credit2 (dst_slot2 c (k0_off6_eq c) _ _))) $$ [$HR $HO $HW]
  iintro ⟨HO, HW, Ha, Hs⟩
  iapply (step_load_slot2 Q c 5 (k0_off8_eq c 5) _ _) $$ Hs
  iintro Hs
  ihave HD := (got_done2 Q c 5) $$ [$Ha $Hs $HD]
  iapply (step_load_outN Q c _ _ blk 5) $$ H5
  iintro %x H5
  iapply (step_store_out Q c 5 (by decide) (k0_off9_eq c 5) _ blk (wide_of_cast Q (bwd c 5) _)) $$ H5
  iintro H5
  iapply (step_recv2 C Q K c 6 (by decide) rfl (credit2 (dst_slot2 c (k0_off6_eq c) _ _))) $$ [$HR $HO $HW]
  iintro ⟨HO, -, Ha, Hs⟩
  iapply (step_load_slot2 Q c 6 (k0_off8_eq c 6) _ _) $$ Hs
  iintro Hs
  ihave HD := (got_done2 Q c 6) $$ [$Ha $Hs $HD]
  iapply (step_load_outN Q c _ _ blk 6) $$ H5
  iintro %x H5
  rw [show k0_pay42 (sent2 Q (bwd c 6)) = wide Q (bwd c 6) from wide_of_cast Q (bwd c 6) _]
  iapply (wpc_ret c _ Kt)
  iapply Hk $$ [$HO $HD $H5]

/-! ## The end: the last block, and the waits on the copies sent -/

/-- The units and the place in the rounds, put together. -/
theorem gatherS1 :
    iprop(bigSep (Finset.range 7) (cred1 (F := F) c) ∗ bigSep (Finset.range 7) fun d => atPos ER (s1Cell c d) 0 ∅ 0)
      ⊢ bigSep (Finset.Ico 0 7) (waitS1 c) := by
  rw [← Finset.range_eq_Ico]; exact Entails.of_eq (bigSep_sep _ _ _).symm
theorem gatherS2 :
    iprop(bigSep (Finset.range 7) (cred2 (F := F) c) ∗ bigSep (Finset.range 7) fun d => atPos ER (s2Cell c d) 0 ∅ 0)
      ⊢ bigSep (Finset.Ico 0 7) (waitS2 c) := by
  rw [← Finset.range_eq_Ico]; exact Entails.of_eq (bigSep_sep _ _ _).symm

/-- The last block, and four waits. -/
theorem run21 (blk : FVec F S32x512 .f32) (Kt : _ → sProp 𝕄) :
    iprop(records C Q K c ∗ owesE c 0 ∗ bigSep (Finset.Ico 0 7) (waitS1 c) ∗ bigSep (Finset.range 0) (doneS1 C c) ∗ outPts Q c blk 6)
      ⊢ iprop(((owesE c 0 ∗ bigSep (Finset.Ico 4 7) (waitS1 c) ∗ bigSep (Finset.range 4) (doneS1 C c) ∗ outPts Q c blk 7) -∗ Kt ⟨⟩)
          -∗ wpc c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (wide Q (bwd c 6))) Kt) := by
  rw [k0_part21_eq_skeleton]; unfold k0_part21_skel
  simp (config := {proj := false}) only [Prog.lift, Prog.bind_op, Prog.bind_ret, Prog.pure_eq_ret, Prog.bind_assoc]
  iintro ⟨#HR, HO, HW, HD, H5⟩
  iintro Hk
  iapply (step_store_out Q c 6 (by decide) (k0_off9_eq c 6) _ blk rfl) $$ H5
  iintro H5
  iapply (step_sent1 C Q K c 0 (by decide) rfl (creditS1 (src_rows c 0 (k0_off2_eq c 0) _ _))) $$ [$HR $HO $HW $HD]
  iintro ⟨HO, HW, HD⟩
  iapply (step_sent1 C Q K c 1 (by decide) rfl (creditS1 (src_rows c 1 (k0_off2_eq c 1) _ _))) $$ [$HR $HO $HW $HD]
  iintro ⟨HO, HW, HD⟩
  iapply (step_sent1 C Q K c 2 (by decide) rfl (creditS1 (src_rows c 2 (k0_off2_eq c 2) _ _))) $$ [$HR $HO $HW $HD]
  iintro ⟨HO, HW, HD⟩
  iapply (step_sent1 C Q K c 3 (by decide) rfl (creditS1 (src_rows c 3 (k0_off2_eq c 3) _ _))) $$ [$HR $HO $HW $HD]
  iintro ⟨HO, HW, HD⟩
  iapply (wpc_ret c _ Kt)
  iapply Hk $$ [$HO $HW $HD $H5]

/-- Five more. -/
theorem run22 (Kt : _ → sProp 𝕄) :
    iprop(records C Q K c ∗ owesE c 0 ∗ bigSep (Finset.Ico 4 7) (waitS1 c) ∗ bigSep (Finset.range 4) (doneS1 C c)
        ∗ bigSep (Finset.Ico 0 7) (waitS2 c) ∗ bigSep (Finset.range 0) (doneS2 Q c))
      ⊢ iprop(((owesE c 0 ∗ bigSep (Finset.range 7) (doneS1 C c) ∗ bigSep (Finset.Ico 2 7) (waitS2 c) ∗ bigSep (Finset.range 2) (doneS2 Q c)) -∗ Kt ⟨⟩)
          -∗ wpc c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c) Kt) := by
  rw [k0_part22_eq_skeleton]; unfold k0_part22_skel
  simp (config := {proj := false}) only [Prog.lift, Prog.bind_op, Prog.bind_ret, Prog.pure_eq_ret, Prog.bind_assoc]
  iintro ⟨#HR, HO, HW, HD, HV, HE⟩
  iintro Hk
  iapply (step_sent1 C Q K c 4 (by decide) rfl (creditS1 (src_rows c 4 (k0_off2_eq c 4) _ _))) $$ [$HR $HO $HW $HD]
  iintro ⟨HO, HW, HD⟩
  iapply (step_sent1 C Q K c 5 (by decide) rfl (creditS1 (src_rows c 5 (k0_off2_eq c 5) _ _))) $$ [$HR $HO $HW $HD]
  iintro ⟨HO, HW, HD⟩
  iapply (step_sent1 C Q K c 6 (by decide) rfl (creditS1 (src_rows c 6 (k0_off2_eq c 6) _ _))) $$ [$HR $HO $HW $HD]
  iintro ⟨HO, -, HD⟩
  iapply (step_sent2 C Q K c 0 (by decide) rfl (credit2 (dst_slot2 c (k0_off6_eq c) _ _))) $$ [$HR $HO $HV $HE]
  iintro ⟨HO, HV, HE⟩
  iapply (step_sent2 C Q K c 1 (by decide) rfl (credit2 (dst_slot2 c (k0_off6_eq c) _ _))) $$ [$HR $HO $HV $HE]
  iintro ⟨HO, HV, HE⟩
  iapply (wpc_ret c _ Kt)
  iapply Hk $$ [$HO $HD $HV $HE]

/-- Four more. -/
theorem run23 (Kt : _ → sProp 𝕄) :
    iprop(records C Q K c ∗ owesE c 0 ∗ bigSep (Finset.Ico 2 7) (waitS2 c) ∗ bigSep (Finset.range 2) (doneS2 Q c))
      ⊢ iprop(((owesE c 0 ∗ bigSep (Finset.Ico 6 7) (waitS2 c) ∗ bigSep (Finset.range 6) (doneS2 Q c)) -∗ Kt ⟨⟩)
          -∗ wpc c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c) Kt) := by
  rw [k0_part23_eq_skeleton]; unfold k0_part23_skel
  simp (config := {proj := false}) only [Prog.lift, Prog.bind_op, Prog.bind_ret, Prog.pure_eq_ret, Prog.bind_assoc]
  iintro ⟨#HR, HO, HV, HE⟩
  iintro Hk
  iapply (step_sent2 C Q K c 2 (by decide) rfl (credit2 (dst_slot2 c (k0_off6_eq c) _ _))) $$ [$HR $HO $HV $HE]
  iintro ⟨HO, HV, HE⟩
  iapply (step_sent2 C Q K c 3 (by decide) rfl (credit2 (dst_slot2 c (k0_off6_eq c) _ _))) $$ [$HR $HO $HV $HE]
  iintro ⟨HO, HV, HE⟩
  iapply (step_sent2 C Q K c 4 (by decide) rfl (credit2 (dst_slot2 c (k0_off6_eq c) _ _))) $$ [$HR $HO $HV $HE]
  iintro ⟨HO, HV, HE⟩
  iapply (step_sent2 C Q K c 5 (by decide) rfl (credit2 (dst_slot2 c (k0_off6_eq c) _ _))) $$ [$HR $HO $HV $HE]
  iintro ⟨HO, HV, HE⟩
  iapply (wpc_ret c _ Kt)
  iapply Hk $$ [$HO $HV $HE]

end Cert.KernelIdeal.Talk

end
-- ==== Proof.Body.lean ====
module

public import proofs.«01_k».proof.Proof.Body2
public import Idealize.ShloMosaic.Lib.Rounds.Family

/-!
# The whole body

The parts put one after the other, from what the region hands a device to what it takes back.
-/

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Dev nD → S256x256.Idx → Elt F .bf16) (Q : Dev nD → S32x512.Idx → Elt F .bf16) (K : GSem nD τ sig → ℕ) (c : Dev nD)

/-! ## What a device holds of the exchange -/

/-- The rights to pay: the seven signals, and both ends of the seven copies of either exchange. -/
def rights : sProp 𝕄 :=
  iprop((bigSep (Finset.range 7) fun d => dutyTok ER (barCell (fwd c d)) 0 (6 - d)) ∗ bigSep (Finset.range 7) (toks1 c)
    ∗ bigSep (Finset.range 7) (toks2 c))
/-- The place in the rounds of the cells of one kind. -/
abbrev placesAt (g : ℕ → GSem nD τ sig) (r : ℕ) : sProp 𝕄 := bigSep (Finset.range 7) fun d => atPos ER (g d) r ∅ 0
/-- The units other devices owe it. -/
def units : sProp 𝕄 :=
  iprop(cred (tallyAt (barCell c) () 7) ∗ (bigSep (Finset.range 7) fun d => cred (tallyAt (r1Cell c d) () N1))
    ∗ bigSep (Finset.range 7) fun d => cred (tallyAt (r2Cell c d) () N2))

/-- The four families of counters of the copies at zero. -/
def zeros (g : ℕ → GSem nD τ sig) : sProp 𝕄 := bigSep (Finset.range 7) fun d => semVal (g d) 0

/-- The scratch buffers, at contents not chosen. -/
def scratch : sProp 𝕄 :=
  iprop((∃ f, bKbd (F := F) c f) ∗ (∃ f, bVbd (F := F) c f) ∗ (∃ f, bCtx (F := F) c f) ∗ (∃ f, bStrip (F := F) c f) ∗ (∃ f, bWob (F := F) c f)
    ∗ (∃ f, bP1 (F := F) c f) ∗ ∃ f, bP2 (F := F) c f)

/-! ## Buffers taken apart and put together -/

/-- The first landing buffer, in the slots of each device. -/
theorem split_p1 (f : S8x32x256.Idx → Elt F .bf16) :
    bP1 c f = iprop(slot1Pts c c f ∗ bigSep (Finset.range 7) fun d => slot1Pts c (fwd c d) f) := by
  have h : (bP1 c f : sProp 𝕄) = _ := Ring.pointsTo_blocks (q := fullShare) (ℓ := (Memref.whole cc0_scratch5).view.loc (c : Thread nD τ))
    (fun s : Dev nD => (slot1 s).view.set) slot1_disjoint slot1_cover f
  exact h.trans (bigSep_fwd c _)
/-- The second landing buffer likewise. -/
theorem split_p2 (f : S8x32x512.Idx → Elt F .bf16) :
    bP2 c f = iprop(slot2Pts c c fullShare f ∗ bigSep (Finset.range 7) fun d => slot2Pts c (fwd c d) fullShare f) := by
  have h : (bP2 c f : sProp 𝕄) = _ := Ring.pointsTo_blocks (q := fullShare) (ℓ := (Memref.whole cc0_scratch6).view.loc (c : Thread nD τ))
    (fun s : Dev nD => (slot2 s).view.set) slot2_disjoint slot2_cover f
  exact h.trans (bigSep_fwd c _)

/-- What the signals take, put together. -/
theorem gatherB (f1 : S8x32x256.Idx → Elt F .bf16) (f2 : S8x32x512.Idx → Elt F .bf16) :
    iprop((bigSep (Finset.range 7) fun d => dutyTok ER (barCell (fwd c d)) 0 (6 - d)) ∗ (bigSep (Finset.range 7) fun d => slot1Pts c (fwd c d) f1)
        ∗ bigSep (Finset.range 7) fun d => slot2Pts c (fwd c d) fullShare f2)
      ⊢ bigSep (Finset.Ico 0 7) (giveB (F := F) c) := by
  rw [← Finset.range_eq_Ico]
  refine BI.Entails.trans (BI.sep_mono (BI.Entails.refl _) (Entails.of_eq (bigSep_sep _ _ _).symm)) ?_
  refine BI.Entails.trans (Entails.of_eq (bigSep_sep _ _ _).symm) (bigSep_mono fun d _ => ?_)
  show iprop(dutyTok ER (barCell (fwd c d)) 0 (6 - d) ∗ slot1Pts c (fwd c d) f1 ∗ slot2Pts c (fwd c d) fullShare f2) ⊢ giveB (F := F) c d
  unfold giveB
  iintro ⟨Ht, H1, H2⟩
  isplitl [Ht]; · iexact Ht
  isplitl [H1]; · iexists _; iexact H1
  iexists _; iexact H2

/-- What the waits of either exchange take, put together. -/
theorem gatherW1 :
    iprop((bigSep (Finset.range 7) fun d => cred (tallyAt (r1Cell c d) () N1)) ∗ placesAt (F := F) (r1Cell c) 0)
      ⊢ bigSep (Finset.Ico 0 7) (wait1 (F := F) c) := by
  rw [← Finset.range_eq_Ico]; exact Entails.of_eq (bigSep_sep _ _ _).symm
theorem gatherW2 :
    iprop((bigSep (Finset.range 7) fun d => cred (tallyAt (r2Cell c d) () N2)) ∗ placesAt (F := F) (r2Cell c) 0)
      ⊢ bigSep (Finset.Ico 0 7) (wait2 (F := F) c) := by
  rw [← Finset.range_eq_Ico]; exact Entails.of_eq (bigSep_sep _ _ _).symm

/-- After the waits on the copies sent the context is whole. -/
theorem join_ctx :
    iprop(rowsPts c c (C c) ∗ bigSep (Finset.range 7) (doneS1 C c)) ⊢ iprop(placesAt (s1Cell c) 1 ∗ bCtx c (C c)) := by
  rw [split_ctx, show bigSep (Finset.range 7) (doneS1 (F := F) C c)
    = iprop(placesAt (s1Cell c) 1 ∗ bigSep (Finset.range 7) (s1Pay C c)) from bigSep_sep _ _ _]
  iintro ⟨Hs, Ha, Hd⟩
  isplitl [Ha]; · iexact Ha
  isplitl [Hs]; · iexact Hs
  iexact Hd

/-- And the second landing buffer: the own slot from its shares, the others as received. -/
theorem join_p2 :
    iprop(slot2Pts c c (shareDrop fullShare 7) (land2 Q) ∗ bigSep (Finset.range 7) (doneS2 Q c) ∗ bigSep (Finset.range 7) (done2 Q c))
      ⊢ iprop(placesAt (s2Cell c) 1 ∗ placesAt (r2Cell c) 1 ∗ bP2 c (land2 Q)) := by
  have h : (bP2 c (land2 Q) : sProp 𝕄) = _ := Ring.pointsTo_blocks (q := fullShare) (ℓ := (Memref.whole cc0_scratch6).view.loc (c : Thread nD τ))
    (fun s : Dev nD => (slot2 s).view.set) slot2_disjoint slot2_cover (land2 Q)
  rw [h, bigSep_bwd c, show bigSep (Finset.range 7) (doneS2 (F := F) Q c)
    = iprop(placesAt (s2Cell c) 1 ∗ bigSep (Finset.range 7) (s2Pay Q c)) from bigSep_sep _ _ _,
    show bigSep (Finset.range 7) (done2 (F := F) Q c)
    = iprop(placesAt (r2Cell c) 1 ∗ bigSep (Finset.range 7) (r2Pay Q c)) from bigSep_sep _ _ _]
  iintro ⟨Hs, ⟨Ha, Hd⟩, Hb, He⟩
  isplitl [Ha]; · iexact Ha
  isplitl [Hb]; · iexact Hb
  ihave Hf := (unsplit2 Q c) $$ [Hs Hd]
  · isplitl [Hs]; · iexact Hs
    iexact Hd
  isplitl [Hf]; · iexact Hf
  iexact He

/-! ## The cells closed -/

/-- A family of cells, one at each distance, whose invariants are known and whose only round is over: the counters, at zero. -/
theorem close_family (g : ℕ → GSem nD τ sig) (R : sProp 𝕄) [BI.Persistent R]
    (h : ∀ d ∈ Finset.range 7, R ⊢ cellInv ER (talkRd C Q) (K (g d)) (g d)) :
    iprop(R ∗ placesAt (F := F) g 1) ⊢ (|={Set.univ}=> zeros (F := F) g) := by
  refine BI.Entails.trans (bigSep_with_persistent (Ψ := fun d => iprop(cellInv ER (talkRd C Q) (K (g d)) (g d) ∗ atPos ER (g d) 1 ∅ 0))
    fun d hd => BI.sep_mono (h d hd) (BI.Entails.refl _)) ?_
  exact cells_close ER (talkRd C Q) (Finset.range 7) g (fun d => K (g d)) (fun _ _ => Set.mem_univ _) (fun _ _ => id) (fun _ => 1)
    fun d _ => duties_later C Q (g d)

theorem inv_s1 : ∀ d ∈ Finset.range 7, records C Q K c ⊢ cellInv ER (talkRd C Q) (K (s1Cell c d)) (s1Cell c d) := fun d hd =>
  (records_at C Q K c (Finset.mem_range.mp hd)).trans (by
    unfold recAt; iintro ⟨-, -, -, -, H, -, -, -, -, -, -, -⟩; iexact H)
theorem inv_r1 : ∀ d ∈ Finset.range 7, records C Q K c ⊢ cellInv ER (talkRd C Q) (K (r1Cell c d)) (r1Cell c d) := fun d hd =>
  (records_at C Q K c (Finset.mem_range.mp hd)).trans (by
    unfold recAt; iintro ⟨-, -, -, -, -, -, H, -, -, -, -, -⟩; iexact H)
theorem inv_s2 : ∀ d ∈ Finset.range 7, records C Q K c ⊢ cellInv ER (talkRd C Q) (K (s2Cell c d)) (s2Cell c d) := fun d hd =>
  (records_at C Q K c (Finset.mem_range.mp hd)).trans (by
    unfold recAt; iintro ⟨-, -, -, -, -, -, -, -, H, -, -, -⟩; iexact H)
theorem inv_r2 : ∀ d ∈ Finset.range 7, records C Q K c ⊢ cellInv ER (talkRd C Q) (K (r2Cell c d)) (r2Cell c d) := fun d hd =>
  (records_at C Q K c (Finset.mem_range.mp hd)).trans (by
    unfold recAt; iintro ⟨-, -, -, -, -, -, -, -, -, -, H, -⟩; iexact H)
theorem close_bar : iprop(records C Q K c ∗ atPos ER (barCell c) 1 ∅ 0) ⊢ (|={Set.univ}=> semVal (barCell c) 0 : sProp 𝕄) := by
  unfold records
  iintro ⟨⟨H, -, -⟩, Ha⟩
  iapply (Rounds.cell_close ER (talkRd C Q) (R := 1) (Set.mem_univ (K (barCell c))) id (duties_later C Q (barCell c)))
  isplitl [H]; · iexact H
  iexact Ha

/-! ## The result -/

/-- With the blocks of all seven predecessors in place the result is complete. -/
theorem out_done (blk : FVec F S32x512 .f32) : outPts Q c blk 7 ⊢ bOut c (outV Q blk c) := by
  unfold outPts
  iintro ⟨%f, H, %h⟩
  have e : f = outV Q blk c := funext fun i => h i (by
    by_cases hc : (i 0).val / 32 = c.val
    · exact .inl hc
    · have hi := (i 0).isLt; change _ < 256 at hi
      obtain ⟨d, hd, e⟩ := exists_fwd c ⟨(i 0).val / 32, by show _ < 8; omega⟩ fun e => hc (congrArg Fin.val e)
      refine .inr ⟨6 - d, by omega, ?_⟩
      rw [bwd_eq_fwd c (by omega), show 6 - (6 - d) = d by omega, e])
  subst e
  iexact H

/-! ## The whole -/

theorem wpc_bind {α β : Type} (p : Prog (TpuEff nD τ sig (Elt F) Λ₀ .tc) α) (k : α → Prog (TpuEff nD τ sig (Elt F) Λ₀ .tc) β)
    (Kt : β → sProp 𝕄) : wpc c p (fun a => wpc c (k a) Kt) ⊢ wpc c (p >>= k) Kt :=
  Entails.of_eq (wp_bind _ _ _ p k Kt).symm

/-- What the region hands a device: its rights, places and units, its operands, the result's buffer and the scratch buffers. -/
def bodyPre (x : S256x512.Idx → Elt F .bf16) (wq : S512x256.Idx → Elt F .bf16) (k : S4x64x256.Idx → Elt F .bf16)
    (v : S4x256x64.Idx → Elt F .bf16) (wo : S2048x512.Idx → Elt F .bf16) : sProp 𝕄 :=
  iprop(owesE c (owed c 0 0 0) ∗ rights c ∗ units c
    ∗ (atPos ER (barCell c) 0 ∅ 0 ∗ placesAt (s1Cell c) 0 ∗ placesAt (r1Cell c) 0 ∗ placesAt (s2Cell c) 0 ∗ placesAt (r2Cell c) 0)
    ∗ (bX c x ∗ bWq c wq ∗ bKe c k ∗ bVa c v ∗ bWo c wo) ∗ (∃ f, bOut c f) ∗ scratch c)
/-- What it takes back: nothing owed, all counters at zero, the operands, the result, the scratch buffers. -/
def bodyPost (x : S256x512.Idx → Elt F .bf16) (wq : S512x256.Idx → Elt F .bf16) (k : S4x64x256.Idx → Elt F .bf16)
    (v : S4x256x64.Idx → Elt F .bf16) (wo : S2048x512.Idx → Elt F .bf16) : sProp 𝕄 :=
  iprop(owesE c 0 ∗ semVal (barCell c) 0 ∗ (zeros (s1Cell c) ∗ zeros (r1Cell c) ∗ zeros (s2Cell c) ∗ zeros (r2Cell c))
    ∗ (bX c x ∗ bWq c wq ∗ bKe c k ∗ bVa c v ∗ bWo c wo) ∗ bOut c (outV Q (blkV C wo c) c) ∗ scratch c)

/-- THE BODY, at the contexts and the finished blocks that the devices compute. -/
theorem runBody (x : S256x512.Idx → Elt F .bf16) (wq : S512x256.Idx → Elt F .bf16) (k : S4x64x256.Idx → Elt F .bf16)
    (v : S4x256x64.Idx → Elt F .bf16) (wo : S2048x512.Idx → Elt F .bf16) (hC : C c = ctxV x wq k v) (hQ : Q c = finV C wo c)
    (Kt : PUnit → sProp 𝕄) :
    iprop(records C Q K c ∗ bodyPre c x wq k v wo)
      ⊢ iprop((bodyPost C Q c x wq k v wo -∗ Kt ⟨⟩) -∗ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt) := by
  rw [cc0_body_eq_skeleton]; unfold cc0_body_skel bodyPre rights units scratch
  iintro ⟨#HR, HO, ⟨HtB, Ht1, Ht2⟩, ⟨HuB, Hu1, Hu2⟩, ⟨HaB, HaS1, HaR1, HaS2, HaR2⟩, ⟨HX, HWq, HKe, HVa, HWo⟩, ⟨%f5, H5⟩,
    ⟨%f6, H6⟩, ⟨%f7, H7⟩, ⟨%f8, H8⟩, ⟨%f9, H9⟩, ⟨%f10, H10⟩, ⟨%f11, H11⟩, ⟨%f12, H12⟩⟩
  iintro Hk
  ihave H11 := (Entails.of_eq (split_p1 c f11)) $$ H11
  icases H11 with ⟨Hs1, H11⟩
  ihave H12 := (Entails.of_eq (split_p2 c f12)) $$ H12
  icases H12 with ⟨Hs2, H12⟩
  ihave HB := (gatherB c f11 f12) $$ [$HtB $H11 $H12]
  -- the barrier, and the operands laid out
  iapply (wpc_bind c _ _ _)
  iapply (run1 C Q K c _) $$ [$HR $HO $HB]
  iintro %v24 ⟨HO, HB⟩
  dsimp only
  iapply (wpc_bind c _ _ _)
  iapply (run2 C Q K c v24 _ k v f6 f7 _) $$ [$HR $HO $HB $HuB $HaB $HKe $HVa $H6 $H7]
  iintro ⟨HO, HaB, Hg1, Hg2, HKe, HVa, H6, H7⟩
  iapply (wpc_bind c _ _ _)
  iapply (run3 c k v _) $$ [$HKe $HVa $H6 $H7]
  iintro ⟨HKe, HVa, H6, H7⟩
  iapply (wpc_bind c _ _ _)
  iapply (run4 c x wq k v _) $$ [$HX $HWq $H6 $H7]
  iintro ⟨HX, HWq, H6, H7⟩
  dsimp only
  iapply (wpc_bind c _ _ _)
  iapply (run5 c _)
  dsimp only
  iapply (wpc_bind c _ _ _)
  iapply (run6 c _ _)
  dsimp only
  -- the first exchange
  iapply (wpc_bind c _ _ _)
  iapply (run7 C Q K c _ _ _ v f8 hC _) $$ [$HR $HO $Ht1 $Hg1 $H7 $H8]
  iintro %w7 ⟨HO, HG, Hcr1, Hrow, H7⟩
  iapply (wpc_bind c _ _ _)
  iapply (run8 C Q K c _ _) $$ [$HR $HO $HG $Hcr1]
  iintro %w8 ⟨HO, HG, Hcr1⟩
  obtain ⟨x, y, z⟩ := w8
  dsimp only
  iapply (wpc_bind c _ _ _)
  iapply (run9 C Q K c _ _) $$ [$HR $HO $HG $Hcr1]
  iintro %w9 ⟨HO, HG, Hcr1⟩
  obtain ⟨x, y, z, t⟩ := w9
  dsimp only
  ihave HW1 := (gatherW1 c) $$ [$Hu1 $HaR1]
  ihave HD1 := (grow_zero (done1 (F := F) C c)) $$ []
  · iempintro
  iapply (wpc_bind c _ _ _)
  iapply (run10 C Q K c _ _ _ _ _ wo f10 f11 _) $$ [$HR $HO $HG $Hcr1 $Hrow $Hs1 $HWo $H10 $HW1 $HD1]
  iintro %w10 ⟨HO, Hcr1, Hrow, Hs1, HWo, H10, HW1, HD1⟩
  obtain ⟨x, y⟩ := w10
  dsimp only
  iapply (wpc_bind c _ _ _)
  iapply (run11 C Q K c _ _ _ _ _ _ _) $$ [$HR $HO $HW1 $HD1]
  iintro %w11 ⟨HO, HW1, HD1⟩
  obtain ⟨x, y⟩ := w11
  dsimp only
  iapply (wpc_bind c _ _ _)
  iapply (run12 C Q K c _ _ _ f9 _) $$ [$HR $HO $HW1 $HD1 $Hs1 $H9]
  iintro ⟨HO, HaR1, H11, ⟨%g, %hg, H9⟩⟩
  iapply (wpc_bind c _ _ _)
  iapply (run13 C c _ g hg _) $$ [$H11 $H9 $H10]
  iintro ⟨H11, H9, H10⟩
  dsimp only
  -- the second exchange
  ihave Hcr2 := (grow_zero (cred2 (F := F) c)) $$ []
  · iempintro
  iapply (wpc_bind c _ _ _)
  iapply (run14 C Q K c _ wo hQ f12 _) $$ [$HR $HO $Hs2 $Ht2 $Hg2 $Hcr2]
  iintro %a14 %b14 %d14 ⟨HO, Hs2, HG, Hcr2⟩
  dsimp only
  iapply (wpc_bind c _ _ _)
  iapply (run15 C Q K c _ _ _) $$ [$HR $HO $HG $Hcr2]
  iintro %w15 ⟨HO, HG, Hcr2⟩
  obtain ⟨x, y⟩ := w15
  dsimp only
  iapply (wpc_bind c _ _ _)
  iapply (run16 C Q K c _ _ _ f5 _) $$ [$HR $HO $HG $Hcr2 $H5]
  iintro %w16 ⟨HO, Hcr2, H5⟩
  obtain ⟨x, y, z⟩ := w16
  dsimp only
  ihave HW2 := (gatherW2 c) $$ [$Hu2 $HaR2]
  ihave HD2 := (grow_zero (done2 (F := F) Q c)) $$ []
  · iempintro
  iapply (wpc_bind c _ _ _)
  iapply (run17 C Q K c _ _ _ _ _) $$ [$HR $HO $HW2 $HD2 $H5]
  iintro %w17 ⟨HO, HW2, HD2, H5⟩
  dsimp only
  iapply (wpc_bind c _ _ _)
  iapply (run18 C Q K c _ _ _ _ _ _) $$ [$HR $HO $HW2 $HD2 $H5]
  iintro %w18 ⟨HO, HW2, HD2, Hl, H5⟩
  iapply (wpc_bind c _ _ _)
  iapply (run19 C Q K c _ _ _ _ _ _) $$ [$HR $HO $HW2 $HD2 $Hl $H5]
  iintro ⟨HO, HW2, HD2, H5⟩
  iapply (wpc_bind c _ _ _)
  iapply (run20 C Q K c _ _ _ _) $$ [$HR $HO $HW2 $HD2 $H5]
  iintro ⟨HO, HD2, H5⟩
  -- the waits on the copies sent
  ihave HV1 := (gatherS1 c) $$ [$Hcr1 $HaS1]
  ihave HV2 := (gatherS2 c) $$ [$Hcr2 $HaS2]
  ihave HE1 := (grow_zero (doneS1 (F := F) C c)) $$ []
  · iempintro
  ihave HE2 := (grow_zero (doneS2 (F := F) Q c)) $$ []
  · iempintro
  iapply (wpc_bind c _ _ _)
  iapply (run21 C Q K c _ _) $$ [$HR $HO $HV1 $HE1 $H5]
  iintro ⟨HO, HV1, HE1, H5⟩
  iapply (wpc_bind c _ _ _)
  iapply (run22 C Q K c _) $$ [$HR $HO $HV1 $HE1 $HV2 $HE2]
  iintro ⟨HO, HE1, HV2, HE2⟩
  iapply (wpc_bind c _ _ _)
  iapply (run23 C Q K c _) $$ [$HR $HO $HV2 $HE2]
  iintro ⟨HO, HV2, HE2⟩
  simp (config := {proj := false}) only [Prog.lift, Prog.bind_op, Prog.bind_ret, Prog.pure_eq_ret, Prog.bind_assoc]
  iapply (step_sent2 C Q K c 6 (by decide) rfl (credit2 (dst_slot2 c (k0_off6_eq c) _ _))) $$ [$HR $HO $HV2 $HE2]
  iintro ⟨HO, -, HE2⟩
  -- everything put together, and the cells closed
  ihave HJ := (join_ctx C c) $$ [$Hrow $HE1]
  icases HJ with ⟨HaS1, H8⟩
  ihave HJ := (join_p2 Q c) $$ [$Hs2 $HE2 $HD2]
  icases HJ with ⟨HaS2, HaR2, H12⟩
  ihave H5 := (out_done Q c _) $$ H5
  unfold wpc
  rw [wp_ret]
  imod (close_bar C Q K c) $$ [$HR $HaB] with HzB
  imod (close_family C Q K (s1Cell c) (records C Q K c) (inv_s1 C Q K c)) $$ [$HR $HaS1] with HzS1
  imod (close_family C Q K (r1Cell c) (records C Q K c) (inv_r1 C Q K c)) $$ [HaR1] with HzR1
  · isplitr; · iexact HR
    iexact HaR1
  imod (close_family C Q K (s2Cell c) (records C Q K c) (inv_s2 C Q K c)) $$ [$HR $HaS2] with HzS2
  imod (close_family C Q K (r2Cell c) (records C Q K c) (inv_r2 C Q K c)) $$ [$HR $HaR2] with HzR2
  imodintro
  iapply Hk
  unfold bodyPost scratch
  isplitl [HO]; · iexact HO
  isplitl [HzB]; · iexact HzB
  isplitl [HzS1 HzR1 HzS2 HzR2]
  · isplitl [HzS1]; · iexact HzS1
    isplitl [HzR1]; · iexact HzR1
    isplitl [HzS2]; · iexact HzS2
    iexact HzR2
  isplitl [HX HWq HKe HVa HWo]
  · isplitl [HX]; · iexact HX
    isplitl [HWq]; · iexact HWq
    isplitl [HKe]; · iexact HKe
    isplitl [HVa]; · iexact HVa
    iexact HWo
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.KernelIdeal.Talk

end
-- ==== Proof.Deal.lean ====
/-
  What every device is handed when the program starts: of all cells the barrier cells are open, the cells of the copies are
  opened by their owner at the kernel's entry. The rights to pay are dealt to the devices that pay, the units to come to the
  devices that wait for them.
-/
module

public import proofs.«01_k».proof.Proof.Body

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The copies' semaphores, by kind and distance -/

/-- Kind 0: first send; 1: first receive; 2: second send; 3: second receive. -/
def kSem (k : Fin 4) (d : ℕ) : DmaSem sig := match k with
  | 0 => sS1 d
  | 1 => sR1 d
  | 2 => sS2 d
  | 3 => sR2 d
abbrev osem (kd : Fin 4 × Fin 7) : SemLoc sig := .dma (kSem kd.1 kd.2.val)
theorem osem_inj : Function.Injective osem := by decide
theorem osem_ne_bar (kd : Fin 4 × Fin 7) : osem kd ≠ .reg barS := fun h => by cases h
theorem ownFacts : Pipeline.OwnSemFacts cfg0.spec osem := by decide

section BigSep
variable {M : Type} [URA M]

theorem ent {P R : sProp M} (h : P ⊢ R) : Idealize.SL.BI.Entails P R := h

theorem bigSep_fin7 (Φ : ℕ → sProp M) : bigSep (Finset.univ : Finset (Fin 7)) (fun i => Φ i.val) = bigSep (Finset.range 7) Φ := by
  have e : Finset.range 7 = (Finset.univ : Finset (Fin 7)).map Fin.valEmbedding := by decide
  rw [e, BI.bigSep_map]; rfl
theorem bigSep_fin4 (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
/-- A statement about every cell of the copies of device `c`, kind by kind. -/
theorem byKind (c : Dev nD) (Φ : GSem nD τ sig → sProp M) :
    (bigSep Finset.univ fun kd : Fin 4 × Fin 7 => Φ ((c : Thread nD τ), osem kd))
      = iprop((bigSep (Finset.range 7) fun d => Φ (s1Cell c d)) ∗ (bigSep (Finset.range 7) fun d => Φ (r1Cell c d))
        ∗ (bigSep (Finset.range 7) fun d => Φ (s2Cell c d)) ∗ bigSep (Finset.range 7) fun d => Φ (r2Cell c d)) := by
  rw [bigSep_univ_prod, bigSep_fin4]
  exact congrArg₂ _ (bigSep_fin7 fun d => Φ (s1Cell c d)) (congrArg₂ _ (bigSep_fin7 fun d => Φ (r1Cell c d))
    (congrArg₂ _ (bigSep_fin7 fun d => Φ (s2Cell c d)) (bigSep_fin7 fun d => Φ (r2Cell c d))))

/-- The device `d + 1` places on, as a rearrangement of all devices. -/
def rot (d : ℕ) (h : d < 7) : Dev nD ≃ Dev nD := ⟨fun c => fwd c d, fun c => bwd c d, fun c => bwd_fwd c h, fun c => fwd_bwd c h⟩
/-- What is said for every device and distance may be said for the device at that distance. -/
theorem moved (Φ : Dev nD → ℕ → sProp M) :
    (bigSep Finset.univ fun c : Dev nD => bigSep (Finset.range 7) (Φ c))
      = bigSep Finset.univ fun c : Dev nD => bigSep (Finset.range 7) fun d => Φ (fwd c d) d := by
  have e (Ψ : Dev nD → ℕ → sProp M) : (bigSep Finset.univ fun c : Dev nD => bigSep (Finset.range 7) (Ψ c))
      = bigSep Finset.univ fun d : Fin 7 => bigSep Finset.univ fun c : Dev nD => Ψ c d.val := by
    rw [bigSep_congr fun c _ => (bigSep_fin7 (Ψ c)).symm, bigSep_univ_comm]
  rw [e Φ, e fun c d => Φ (fwd c d) d]
  exact bigSep_congr fun d _ => bigSep_univ_equiv (rot d.val d.isLt) fun c => Φ c d.val

end BigSep

/-! ## The cells and the duties -/

def barEmb : Dev nD ↪ GSem nD τ sig := ⟨fun c => barCell c, fun _ _ h => congrArg (fun g : GSem nD τ sig => g.1.1) h⟩
def copyEmb : Dev nD × (Fin 4 × Fin 7) ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev copyCells : Finset (GSem nD τ sig) := Finset.univ.map copyEmb

def barTokEmb : Dev nD × Fin 7 ↪ GSem nD τ sig × ℕ × ℕ :=
  ⟨fun ce => (barCell ce.1, 0, ce.2.val), fun _ _ h =>
    Prod.ext (congrArg (fun t : GSem nD τ sig × ℕ × ℕ => t.1.1.1) h) (Fin.ext (congrArg (fun t : GSem nD τ sig × ℕ × ℕ => t.2.2) h))⟩
def copyTokEmb : Dev nD × (Fin 4 × Fin 7) ↪ GSem nD τ sig × ℕ × ℕ :=
  ⟨fun ck => (copyEmb ck, 0, 0), fun _ _ h => copyEmb.injective (congrArg (fun t : GSem nD τ sig × ℕ × ℕ => t.1) h)⟩
abbrev barToks : Finset (GSem nD τ sig × ℕ × ℕ) := Finset.univ.map barTokEmb
abbrev copyToks : Finset (GSem nD τ sig × ℕ × ℕ) := Finset.univ.map copyTokEmb

theorem cells_disjoint : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem toks_disjoint : Disjoint (barToks : Finset (GSem nD τ sig × ℕ × ℕ)) copyToks := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun t : GSem nD τ sig × ℕ × ℕ => t.1.2) h)
theorem bar_mem (c : Dev nD) : barCell c ∈ (barCells ∪ copyCells : Finset (GSem nD τ sig)) :=
  Finset.mem_union_left _ (Finset.mem_map_of_mem barEmb (Finset.mem_univ c))
theorem copy_mem (c : Dev nD) (kd : Fin 4 × Fin 7) : ((c : Thread nD τ), osem kd) ∈ (barCells ∪ copyCells : Finset (GSem nD τ sig)) :=
  Finset.mem_union_right _ (Finset.mem_map_of_mem copyEmb (Finset.mem_univ (c, kd)))

theorem regroup (A B1 B2 C1 C2 : sProp 𝕄) : iprop(A ∗ B1 ∗ B2 ∗ C1 ∗ C2) = iprop(A ∗ (B1 ∗ B2) ∗ C1 ∗ C2) := by
  have h1 : iprop(A ∗ B1 ∗ B2 ∗ C1 ∗ C2) ⊢ iprop(A ∗ (B1 ∗ B2) ∗ C1 ∗ C2) := by
    iintro ⟨H1, H2, H3, H4, H5⟩
    isplitl [H1]; · iexact H1
    isplitl [H2 H3]; · isplitl [H2] <;> iassumption
    isplitl [H4] <;> iassumption
  have h2 : iprop(A ∗ (B1 ∗ B2) ∗ C1 ∗ C2) ⊢ iprop(A ∗ B1 ∗ B2 ∗ C1 ∗ C2) := by
    iintro ⟨H1, ⟨H2, H3⟩, H4, H5⟩
    isplitl [H1]; · iexact H1
    isplitl [H2]; · iexact H2
    isplitl [H3]; · iexact H3
    isplitl [H4] <;> iassumption
  exact BI.equiv_iff.mp ⟨h1, h2⟩

/-- All rights to pay, dealt to those who pay. -/
theorem deal_rights :
    bigSep (barToks ∪ copyToks) (fun x => (dutyTok ER x.1 x.2.1 x.2.2 : sProp 𝕄)) = bigSep Finset.univ fun c : Dev nD => rights (F := F) c := by
  have hb : bigSep barToks (fun x => (dutyTok ER x.1 x.2.1 x.2.2 : sProp 𝕄))
      = bigSep Finset.univ fun c : Dev nD => bigSep (Finset.range 7) fun d => dutyTok ER (barCell (fwd c d)) 0 (6 - d) := by
    rw [bigSep_map, bigSep_univ_prod]
    refine Eq.trans (bigSep_congr (s := Finset.univ) fun c _ => (bigSep_fin7 fun e => (dutyTok ER (barCell c) 0 e : sProp 𝕄)).trans
      (bigSep_reflect fun e => (dutyTok ER (barCell c) 0 e : sProp 𝕄))) ?_
    exact moved fun c d => dutyTok ER (barCell c) 0 (6 - d)
  have hc : bigSep copyToks (fun x => (dutyTok ER x.1 x.2.1 x.2.2 : sProp 𝕄))
      = bigSep Finset.univ fun c : Dev nD => iprop((bigSep (Finset.range 7) fun d => dutyTok ER (s1Cell c d) 0 0)
          ∗ (bigSep (Finset.range 7) fun d => dutyTok ER (r1Cell c d) 0 0) ∗ (bigSep (Finset.range 7) fun d => dutyTok ER (s2Cell c d) 0 0)
          ∗ bigSep (Finset.range 7) fun d => dutyTok ER (r2Cell c d) 0 0) := by
    rw [bigSep_map, bigSep_univ_prod]
    exact bigSep_congr fun c _ => byKind c fun g => (dutyTok ER g 0 0 : sProp 𝕄)
  have hr : (bigSep Finset.univ fun c : Dev nD => rights (F := F) c)
      = bigSep Finset.univ fun c : Dev nD => iprop((bigSep (Finset.range 7) fun d => dutyTok ER (barCell (fwd c d)) 0 (6 - d))
          ∗ ((bigSep (Finset.range 7) fun d => dutyTok ER (s1Cell c d) 0 0) ∗ bigSep (Finset.range 7) fun d => dutyTok ER (r1Cell (fwd c d) d) 0 0)
          ∗ ((bigSep (Finset.range 7) fun d => dutyTok ER (s2Cell c d) 0 0) ∗ bigSep (Finset.range 7) fun d => dutyTok ER (r2Cell (fwd c d) d) 0 0)) :=
    bigSep_congr fun c _ => by
      unfold rights
      exact congrArg₂ _ rfl (congrArg₂ _ (bigSep_sep _ _ _) (bigSep_sep _ _ _))
  rw [bigSep_union toks_disjoint, hb, hc, hr]
  simp only [bigSep_sep']
  rw [moved fun c d => (dutyTok ER (r1Cell c d) 0 0 : sProp 𝕄), moved fun c d => (dutyTok ER (r2Cell c d) 0 0 : sProp 𝕄)]
  exact regroup _ _ _ _ _

/-! ## The units to come -/

abbrev O₀ (c : Dev nD) : CellTallies nD τ sig Unit := owed c 0 0 0

/-- What all devices together owe cell `g` on one family of cells, counted at the cell instead of at the payer. -/
theorem due_sum (f : Dev nD → ℕ → GSem nD τ sig) (k : ℕ) (g : GSem nD τ sig) :
    ∑ o : Dev nD, (∑ e ∈ Finset.Ico 0 7, (tallyAt (f (fwd o e) e) () k : CellTallies nD τ sig Unit)) g ()
      = ∑ e ∈ Finset.Ico 0 7, ∑ o : Dev nD, if g = f o e then k else 0 := by
  have h1 (o : Dev nD) : (∑ e ∈ Finset.Ico 0 7, (tallyAt (f (fwd o e) e) () k : CellTallies nD τ sig Unit)) g ()
      = ∑ e ∈ Finset.Ico 0 7, if g = f (fwd o e) e then k else 0 := by
    rw [Finset.sum_apply, Finsupp.finsetSum_apply]
    exact Finset.sum_congr rfl fun e _ => by rw [tallyAt_apply]; exact if_congr (and_iff_left rfl) rfl rfl
  rw [Finset.sum_congr rfl fun o _ => h1 o, Finset.sum_comm]
  exact Finset.sum_congr rfl fun e he =>
    Equiv.sum_comp (rot e (Finset.mem_Ico.mp he).2) fun o : Dev nD => if g = f o e then k else 0
theorem due_none (f : Dev nD → ℕ → GSem nD τ sig) (k : ℕ) (g : GSem nD τ sig) (h : ∀ o e, e < 7 → g ≠ f o e) :
    ∑ o : Dev nD, (∑ e ∈ Finset.Ico 0 7, (tallyAt (f (fwd o e) e) () k : CellTallies nD τ sig Unit)) g () = 0 := by
  rw [due_sum]
  exact Finset.sum_eq_zero fun e he => Finset.sum_eq_zero fun o _ => if_neg (h o e (Finset.mem_Ico.mp he).2)
theorem due_one (f : Dev nD → ℕ → GSem nD τ sig) (k : ℕ) (c : Dev nD) {d : ℕ} (hd : d < 7)
    (h : ∀ o e, e < 7 → f c d = f o e → o = c ∧ e = d) :
    ∑ o : Dev nD, (∑ e ∈ Finset.Ico 0 7, (tallyAt (f (fwd o e) e) () k : CellTallies nD τ sig Unit)) (f c d) () = k := by
  rw [due_sum, Finset.sum_eq_single d, Finset.sum_eq_single c, if_pos rfl]
  · exact fun o _ ho => if_neg fun e => ho (h o d hd e).1
  · exact fun hc => absurd (Finset.mem_univ c) hc
  · exact fun e he hne => Finset.sum_eq_zero fun o _ => if_neg fun e' => hne (h o e (Finset.mem_Ico.mp he).2 e').2
  · exact fun hc => absurd (Finset.mem_Ico.mpr ⟨Nat.zero_le _, hd⟩) hc
theorem due_bar (c : Dev nD) :
    ∑ o : Dev nD, (∑ e ∈ Finset.Ico 0 7, (tallyAt (barCell (fwd o e)) () 1 : CellTallies nD τ sig Unit)) (barCell c) () = 7 := by
  rw [due_sum (fun o _ => barCell o), Finset.sum_congr rfl fun e _ => Finset.sum_eq_single c
    (fun o _ ho => if_neg fun h => ho (congrArg (fun g : GSem nD τ sig => g.1.1) h).symm) fun hc => absurd (Finset.mem_univ c) hc]
  rw [Finset.sum_congr rfl fun e _ => if_pos rfl]; rfl

/-- What all devices together owe a cell. -/
theorem due_all (g : GSem nD τ sig) : ∑ o : Dev nD, O₀ o g ()
    = (∑ o : Dev nD, (∑ e ∈ Finset.Ico 0 7, (tallyAt (barCell (fwd o e)) () 1 : CellTallies nD τ sig Unit)) g ())
      + (∑ o : Dev nD, (∑ e ∈ Finset.Ico 0 7, (tallyAt (r1Cell (fwd o e) e) () N1 : CellTallies nD τ sig Unit)) g ())
      + ∑ o : Dev nD, (∑ e ∈ Finset.Ico 0 7, (tallyAt (r2Cell (fwd o e) e) () N2 : CellTallies nD τ sig Unit)) g () := by
  rw [← Finset.sum_add_distrib, ← Finset.sum_add_distrib]
  rfl

theorem dma_val {c o : Dev nD} {s t : DmaSem sig} (h : (((c : Thread nD τ), SemLoc.dma s) : GSem nD τ sig) = ((o : Thread nD τ), .dma t)) :
    c = o ∧ s.val = t.val := by
  refine ⟨congrArg (fun g : GSem nD τ sig => g.1.1) h, ?_⟩
  have := congrArg Prod.snd h
  cases this
  rfl
theorem bar_ne {c o : Dev nD} {t : DmaSem sig} : barCell c ≠ ((o : Thread nD τ), .dma t) := fun h => by
  have := congrArg Prod.snd h
  cases this

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, due_all, due_bar, due_none (fun o e => r1Cell o e) N1 _ fun _ _ _ => bar_ne,
    due_none (fun o e => r2Cell o e) N2 _ fun _ _ _ => bar_ne]
theorem launch_r1 (c : Dev nD) {d : ℕ} (hd : d < 7) :
    tallyOn (r1Cell c d) (launchCredit (Pipeline.owing O₀) 0 (r1Cell c d)) = (tallyAt (r1Cell c d) () N1 : CellTallies nD τ sig Unit) := by
  unfold tallyAt; refine congrArg _ (Finsupp.ext fun u => ?_); cases u
  rw [Pipeline.launchCredit_owing, Finsupp.single_eq_same, due_all, due_none (fun o _ => barCell o) 1 _ fun _ _ _ h => bar_ne h.symm,
    due_one (fun o e => r1Cell o e) N1 c hd fun o e he h => ?_, due_none (fun o e => r2Cell o e) N2 _ fun o e he h => ?_, Nat.zero_add, Nat.add_zero]
  · have := dma_val h; rw [sR1_val hd, sR2_val he] at this; omega
  · have := dma_val h; rw [sR1_val hd, sR1_val he] at this; exact ⟨this.1.symm, by omega⟩
theorem launch_r2 (c : Dev nD) {d : ℕ} (hd : d < 7) :
    tallyOn (r2Cell c d) (launchCredit (Pipeline.owing O₀) 0 (r2Cell c d)) = (tallyAt (r2Cell c d) () N2 : CellTallies nD τ sig Unit) := by
  unfold tallyAt; refine congrArg _ (Finsupp.ext fun u => ?_); cases u
  rw [Pipeline.launchCredit_owing, Finsupp.single_eq_same, due_all, due_none (fun o _ => barCell o) 1 _ fun _ _ _ h => bar_ne h.symm,
    due_none (fun o e => r1Cell o e) N1 _ fun o e he h => ?_, due_one (fun o e => r2Cell o e) N2 c hd fun o e he h => ?_, Nat.zero_add]
  · have := dma_val h; rw [sR2_val hd, sR2_val he] at this; exact ⟨this.1.symm, by omega⟩
  · have := dma_val h; rw [sR2_val hd, sR1_val he] at this; omega

/-- The units that reach a device: seven on its barrier cell, one copy's worth on each receive cell. -/
theorem deal_units (c : Dev nD) : (Pipeline.launchCred O₀ c : sProp 𝕄) ⊢ units (F := F) c := by
  unfold Pipeline.launchCred units
  rw [bigSep_univ_at _ (SemLoc.reg barS), launch_bar]
  refine BI.sep_mono (BI.Entails.refl _) ?_
  refine BI.Entails.trans (BI.bigSep_subset (t := Finset.univ.map ⟨osem, osem_inj⟩) fun s hs => ?_) ?_
  · obtain ⟨kd, -, rfl⟩ := Finset.mem_map.mp hs
    exact Finset.mem_erase.mpr ⟨osem_ne_bar kd, Finset.mem_univ _⟩
  rw [bigSep_map]
  refine BI.Entails.trans (Entails.of_eq (byKind c fun g => (cred (tallyOn g (launchCredit (Pipeline.owing O₀) 0 g)) : sProp 𝕄))) (ent ?_)
  iintro ⟨-, H1, -, H2⟩
  isplitl [H1]
  · iapply (Entails.of_eq (bigSep_congr fun d hd => by rw [launch_r1 c (Finset.mem_range.mp hd)])) $$ H1
  · iapply (Entails.of_eq (bigSep_congr fun d hd => by rw [launch_r2 c (Finset.mem_range.mp hd)])) $$ H2

/-! ## What a device holds from the start, and from the kernel's entry -/

section Held
variable (C : Dev nD → S256x256.Idx → Elt F .bf16) (Q : Dev nD → S32x512.Idx → Elt F .bf16) (K : GSem nD τ sig → ℕ) (c : Dev nD)

/-- Known to all: the invariant of every cell, and that every barrier cell is open. -/
def shared : sProp 𝕄 :=
  iprop((bigSep (barCells ∪ copyCells) fun g => cellInv ER (talkRd C Q) (K g) g) ∗ bigSep barCells fun g => reached ER g 0)
instance shared_persistent : BI.Persistent (shared C Q K) := by unfold shared; infer_instance

/-- Own to `c`: its place at the barrier cell, the rights to open its copies' cells, the rights to pay. -/
def own : sProp 𝕄 :=
  iprop(atPos ER (barCell c) 0 ∅ 0 ∗ (bigSep Finset.univ fun kd : Fin 4 × Fin 7 => openTok ER (((c : Thread nD τ), osem kd) : GSem nD τ sig)) ∗ rights c)

/-- Up to the kernel's entry. -/
def Tk : sProp 𝕄 := iprop((∃ K, shared C Q K ∗ own c) ∗ units c)
/-- From the kernel's entry on. -/
def Xk : sProp 𝕄 :=
  iprop((∃ K, records C Q K c) ∗ rights c ∗ units c
    ∗ (atPos ER (barCell c) 0 ∅ 0 ∗ placesAt (s1Cell c) 0 ∗ placesAt (r1Cell c) 0 ∗ placesAt (s2Cell c) 0 ∗ placesAt (r2Cell c) 0))

theorem shared_inv {g : GSem nD τ sig} (hg : g ∈ (barCells ∪ copyCells : Finset (GSem nD τ sig))) :
    shared C Q K ⊢ cellInv ER (talkRd C Q) (K g) g := by
  unfold shared
  iintro ⟨H, -⟩
  iapply (show (bigSep (barCells ∪ copyCells) fun g => (cellInv ER (talkRd C Q) (K g) g : sProp 𝕄)) ⊢ cellInv ER (talkRd C Q) (K g) g from bigSep_elim hg) $$ H
theorem shared_reached (o : Dev nD) : shared C Q K ⊢ reached ER (barCell o) 0 := by
  unfold shared
  iintro ⟨-, H⟩
  iapply (show (bigSep barCells fun g => (reached ER g 0 : sProp 𝕄)) ⊢ reached ER (barCell o) 0 from
    bigSep_elim (Finset.mem_map_of_mem barEmb (Finset.mem_univ o))) $$ H
theorem opened_at (kd : Fin 4 × Fin 7) :
    (bigSep Finset.univ fun kd : Fin 4 × Fin 7 => (reached ER (((c : Thread nD τ), osem kd) : GSem nD τ sig) 0 : sProp 𝕄))
      ⊢ reached ER (((c : Thread nD τ), osem kd) : GSem nD τ sig) 0 := bigSep_elim (Finset.mem_univ kd)

/-- What a device needs to know, from what all know and from its own cells being open. -/
theorem records_intro : iprop((shared C Q K ∗ levAts L lv)
      ∗ bigSep Finset.univ fun kd : Fin 4 × Fin 7 => (reached ER (((c : Thread nD τ), osem kd) : GSem nD τ sig) 0 : sProp 𝕄))
    ⊢ records C Q K c := by
  have h : ∀ d ∈ Finset.range 7, iprop(shared C Q K
      ∗ bigSep Finset.univ fun kd : Fin 4 × Fin 7 => (reached ER (((c : Thread nD τ), osem kd) : GSem nD τ sig) 0 : sProp 𝕄)) ⊢ recAt C Q K c d := by
    intro d hd
    have hd := Finset.mem_range.mp hd
    unfold recAt
    iintro ⟨#HS, #HR⟩
    isplitr; · iapply (shared_inv C Q K (bar_mem (fwd c d))) $$ HS
    isplitr; · iapply (shared_reached C Q K (fwd c d)) $$ HS
    isplitr; · iapply (shared_inv C Q K (copy_mem (fwd c d) (1, ⟨d, hd⟩))) $$ HS
    isplitr; · iapply (shared_inv C Q K (copy_mem (fwd c d) (3, ⟨d, hd⟩))) $$ HS
    isplitr; · iapply (shared_inv C Q K (copy_mem c (0, ⟨d, hd⟩))) $$ HS
    isplitr; · iapply (opened_at c (0, ⟨d, hd⟩)) $$ HR
    isplitr; · iapply (shared_inv C Q K (copy_mem c (1, ⟨d, hd⟩))) $$ HS
    isplitr; · iapply (opened_at c (1, ⟨d, hd⟩)) $$ HR
    isplitr; · iapply (shared_inv C Q K (copy_mem c (2, ⟨d, hd⟩))) $$ HS
    isplitr; · iapply (opened_at c (2, ⟨d, hd⟩)) $$ HR
    isplitr; · iapply (shared_inv C Q K (copy_mem c (3, ⟨d, hd⟩))) $$ HS
    iapply (opened_at c (3, ⟨d, hd⟩)) $$ HR
  unfold records
  iintro ⟨⟨#HS, #HL⟩, #HR⟩
  isplitr; · iapply (shared_inv C Q K (bar_mem c)) $$ HS
  isplitr; · iexact HL
  iapply (show _ ⊢ _ from (BI.Entails.trans (bigSep_of_persistent (Finset.range 7) _) (bigSep_mono h)))
  isplitr; · iexact HS
  iexact HR

/-- At the kernel's entry the device opens its copies' cells with their counters, all zero. -/
theorem open_cells : iprop(Tk C Q c ∗ Pipeline.ownSems0 osem c ∗ levAts L lv) ⊢ (|={Set.univ}=> Xk C Q c : sProp 𝕄) := by
  unfold Tk own Pipeline.ownSems0
  iintro ⟨⟨⟨%K, #HS, Hb, Ho, Hr⟩, Hu⟩, Hs, #HL⟩
  ihave Ho := (bigSep_with_persistent (R := shared C Q K)
    (Ψ := fun kd => iprop(cellInv ER (talkRd C Q) (K ((c : Thread nD τ), osem kd)) ((c : Thread nD τ), osem kd) ∗ openTok ER ((c : Thread nD τ), osem kd)))
    fun kd _ => BI.sep_mono (shared_inv C Q K (copy_mem c kd)) (BI.Entails.refl _)) $$ [Ho]
  · isplitr; · iexact HS
    iexact Ho
  imod (Rounds.cells_open ER (talkRd C Q) (Finset.univ : Finset (Fin 4 × Fin 7)) (fun kd => ((c : Thread nD τ), osem kd))
    (fun kd => K ((c : Thread nD τ), osem kd)) (Es := Set.univ) fun _ _ => Set.mem_univ _) $$ [Ho Hs] with H
  · isplitl [Ho] <;> iassumption
  imodintro
  ihave H := (Entails.of_eq (bigSep_sep' _ _ _)) $$ H
  icases H with ⟨Hp, #HR⟩
  ihave Hp := (Entails.of_eq (byKind c fun g => (atPos ER g 0 ∅ 0 : sProp 𝕄))) $$ Hp
  unfold Xk
  isplitr
  · iexists K
    iapply (records_intro C Q K c)
    isplitr
    · isplitr; · iexact HS
      iexact HL
    iexact HR
  isplitl [Hr]; · iexact Hr
  isplitl [Hu]; · iexact Hu
  isplitl [Hb]; · iexact Hb
  iexact Hp

theorem ownSems_eq : (Pipeline.ownSems0 osem c : sProp 𝕄) = iprop(zeros (s1Cell c) ∗ zeros (r1Cell c) ∗ zeros (s2Cell c) ∗ zeros (r2Cell c)) :=
  byKind c fun g => (semVal g 0 : sProp 𝕄)

end Held

end Cert.KernelIdeal.Talk

end
-- ==== Proof.Run.lean ====
/-
  The kernel as a region of the program, and the run of the whole program: it ends, every argument as it was, every
  semaphore at zero, and the result is `outV` of the blocks the devices compute.
-/
module

public import proofs.«01_k».proof.Proof.Deal
public import proofs.«01_k».proof.Proof.Gen.KernelIdeal.Regions
public import proofs.«01_k».proof.Proof.Gen.KernelIdeal.Points
public import Idealize.ShloMosaic.Lib.Pipeline.ValueKit

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ UU ℕ

variable (m : (ℓ : Loc nD τ sig) → Buf (Elt F) ℓ)

/-! ## The contents -/

/-- The operands of the kernel on a device, as the program leaves them before it. -/
abbrev aX (c : Dev nD) : S256x512.Idx → Elt F .bf16 := V1 m c main_v5
abbrev aWq (c : Dev nD) : S512x256.Idx → Elt F .bf16 := V1 m c main_v12
abbrev aK (c : Dev nD) : S4x64x256.Idx → Elt F .bf16 := V1 m c main_v14
abbrev aV (c : Dev nD) : S4x256x64.Idx → Elt F .bf16 := V1 m c main_v16
abbrev aWo (c : Dev nD) : S2048x512.Idx → Elt F .bf16 := V1 m c main_arg4
/-- Every device's context. -/
def Cm (c : Dev nD) : S256x256.Idx → Elt F .bf16 := ctxV (aX m c) (aWq m c) (aK m c) (aV m c)
/-- Every device's finished block, as it is sent. -/
def Qm (c : Dev nD) : S32x512.Idx → Elt F .bf16 := finV (Cm m) (aWo m c) c
/-- What the kernel leaves in its result on device `c`. -/
def res (c : Dev nD) : S256x512.Idx → Elt F .f32 := outV (Qm m) (blkV (Cm m) (aWo m c) c) c

/-- The contents after the kernel: the result's buffer changed, no other read. -/
def outs : Outs (F := F) := fun _ r c => if h : r = main_v17 then h ▸ res m c else V1 m c r
theorem outs_res (c : Dev nD) : outs m 2 main_v17 c = res m c := dif_pos rfl

/-! ## The kernel's windows -/

def Φ₀ (c : Dev nD) : sProp 𝕄 := iprop(Xk (Cm m) (Qm m) c ∗ scratch c ∗ ∃ r, prngReg c r)
def Φ₁ (c : Dev nD) : sProp 𝕄 :=
  iprop(semVal (barCell c) 0 ∗ (zeros (s1Cell c) ∗ zeros (r1Cell c) ∗ zeros (s2Cell c) ∗ zeros (r2Cell c)) ∗ scratch c ∗ ∃ r, prngReg c r)

def dats (_ : Fin 1) (c : Dev nD) : Dat τ (Elt F) Unit ℕ UU ℕ cfg0 c where
  A w := V1 m c (Pipeline.arrRef cfg0.spec w)
  after w _ := match w with
    | ⟨0, _⟩ => aX m c
    | ⟨1, _⟩ => aWq m c
    | ⟨2, _⟩ => aK m c
    | ⟨3, _⟩ => aV m c
    | ⟨4, _⟩ => aWo m c
    | ⟨5, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem off_zero (i b n : ℕ) (h : i = 0) : i * b + n = n := by rw [h, Nat.zero_mul, Nat.zero_add]
/-- Each operand's window is the whole of its array: what the body finds in it is the operand. -/
theorem before0 (c : Dev nD) (d) : (dats m 0 c).before (0 : Fin 6) t0_0 d = aX m c := by
  rw [(dats m 0 c).before_fetched (0 : Fin 6) t0_0 (fetch0_0 _)]
  exact funext fun j => congrArg (V1 m c main_v5) (funext fun a => Fin.ext (by blk_simp; exact off_zero _ _ _ rfl))
theorem before1 (c : Dev nD) (d) : (dats m 0 c).before (1 : Fin 6) t0_0 d = aWq m c := by
  rw [(dats m 0 c).before_fetched (1 : Fin 6) t0_0 (fetch0_1 _)]
  exact funext fun j => congrArg (V1 m c main_v12) (funext fun a => Fin.ext (by blk_simp; exact off_zero _ _ _ rfl))
theorem before2 (c : Dev nD) (d) : (dats m 0 c).before (2 : Fin 6) t0_0 d = aK m c := by
  rw [(dats m 0 c).before_fetched (2 : Fin 6) t0_0 (fetch0_2 _)]
  exact funext fun j => congrArg (V1 m c main_v14) (funext fun a => Fin.ext (by blk_simp; exact off_zero _ _ _ rfl))
theorem before3 (c : Dev nD) (d) : (dats m 0 c).before (3 : Fin 6) t0_0 d = aV m c := by
  rw [(dats m 0 c).before_fetched (3 : Fin 6) t0_0 (fetch0_3 _)]
  exact funext fun j => congrArg (V1 m c main_v16) (funext fun a => Fin.ext (by blk_simp; exact off_zero _ _ _ rfl))
theorem before4 (c : Dev nD) (d) : (dats m 0 c).before (4 : Fin 6) t0_0 d = aWo m c := by
  rw [(dats m 0 c).before_fetched (4 : Fin 6) t0_0 (fetch0_4 _)]
  exact funext fun j => congrArg (V1 m c main_arg4) (funext fun a => Fin.ext (by blk_simp; exact off_zero _ _ _ rfl))

theorem share_eq (c : Dev nD) (w : Fin cfg0.W) : (dats m 0 c).share w = fullShare := by unfold Dat.share; split <;> rfl

/-- After the kernel the operands are as before and the result is `res`. -/
theorem final_res (c : Dev nD) : (dats m 0 c).arrAt (5 : Fin 6) cfg0.N = res m c :=
  (dats m 0 c).arrAt_eq_of_after_last (5 : Fin 6) t0_0 (by decide) _ fun j => rfl
theorem final (c : Dev nD) (w : Fin cfg0.W) :
    (dats m 0 c).arrAt w cfg0.N = V2 m (outs m) c (Proc.devRef .tc (Pipeline.arrRef cfg0.spec w)) := by
  match w with
  | ⟨0, _⟩ => exact ((dats m 0 c).arrAt_in (0 : Fin 6) rfl _).trans (V2_of m (outs m) c main_v5 (by decide)).symm
  | ⟨1, _⟩ => exact ((dats m 0 c).arrAt_in (1 : Fin 6) rfl _).trans (V2_of m (outs m) c main_v12 (by decide)).symm
  | ⟨2, _⟩ => exact ((dats m 0 c).arrAt_in (2 : Fin 6) rfl _).trans (V2_of m (outs m) c main_v14 (by decide)).symm
  | ⟨3, _⟩ => exact ((dats m 0 c).arrAt_in (3 : Fin 6) rfl _).trans (V2_of m (outs m) c main_v16 (by decide)).symm
  | ⟨4, _⟩ => exact ((dats m 0 c).arrAt_in (4 : Fin 6) rfl _).trans (V2_of m (outs m) c main_arg4 (by decide)).symm
  | ⟨5, _⟩ =>
    refine (final_res m c).trans ?_
    rw [← outs_res]
    exact (Function.update_self (Proc.devRef .tc main_v17) (outs m 2 main_v17 c) (V1 m c)).symm

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop((Memref.whole b).view.loc (c : Thread nD τ) ↦{fullShare} X) := by
  unfold owns
  simp only [Memref.view_whole, View.read_whole, View.set_whole]
  have h1 : iprop(∃ f : Buf (Elt F) (((c : Dev nD) : Thread nD τ).loc b), ⌜f = X⌝ ∗ (((c : Thread nD τ).loc b) ↦{fullShare} f))
      ⊢ iprop((((c : Thread nD τ).loc b) ↦{fullShare} X : sProp 𝕄)) := by
    iintro ⟨%f, %h, H⟩; subst h; iexact H
  have h2 : iprop((((c : Thread nD τ).loc b) ↦{fullShare} X : sProp 𝕄))
      ⊢ iprop(∃ f : Buf (Elt F) (((c : Dev nD) : Thread nD τ).loc b), ⌜f = X⌝ ∗ (((c : Thread nD τ).loc b) ↦{fullShare} f)) := by
    iintro H; iexists X
    isplitr; · ipureintro; rfl
    iexact H
  exact BI.equiv_iff.mp ⟨h1, h2⟩

theorem owesAt_intro (c : Dev nD) (t : Fin (cfg0.N + 1)) (O : CellTallies nD τ sig Unit) (h0 : (dats m 0 c).owed t = O) :
    owesE (F := F) c O ⊢ ((dats m 0 c).owesAt () t : sProp 𝕄) := by
  unfold owesE Dat.owesAt Pipeline.owesWithin Dat.bound
  rw [h0, show (dats m 0 c).recorded t = Set.univ from rfl]
  iintro ⟨%W, HO⟩; iexists W
  isplitr; · ipureintro; exact fun _ _ => Or.inl trivial
  iexact HO
theorem owesAt_elim (c : Dev nD) (t : Fin (cfg0.N + 1)) (O : CellTallies nD τ sig Unit) (h0 : (dats m 0 c).owed t = O) :
    ((dats m 0 c).owesAt () t : sProp 𝕄) ⊢ owesE c O := by
  unfold owesE Dat.owesAt Pipeline.owesWithin
  rw [h0]
  iintro ⟨%W, -, HO⟩; iexists W; iexact HO

/-- The body, run with what the region holds before it, leaves what the region holds after it. -/
theorem region_body (c : Dev nD) (d0 d1 d2 d3 d4 d5) :
    iprop(Φ₀ m c ∗ (dats m 0 c).owesAt () t0_0.castSucc
        ∗ bX c ((dats m 0 c).before (0 : Fin 6) t0_0 d0) ∗ bWq c ((dats m 0 c).before (1 : Fin 6) t0_0 d1)
        ∗ bKe c ((dats m 0 c).before (2 : Fin 6) t0_0 d2) ∗ bVa c ((dats m 0 c).before (3 : Fin 6) t0_0 d3)
        ∗ bWo c ((dats m 0 c).before (4 : Fin 6) t0_0 d4) ∗ bOut c ((dats m 0 c).before (5 : Fin 6) t0_0 d5))
      ⊢ wpc c (bodyAt0 t0_0) fun _ => iprop(Φ₁ c ∗ (dats m 0 c).owesAt () t0_0.succ
        ∗ bX c (aX m c) ∗ bWq c (aWq m c) ∗ bKe c (aK m c) ∗ bVa c (aV m c) ∗ bWo c (aWo m c) ∗ bOut c (res m c)) := by
  rw [before0, before1, before2, before3, before4]
  unfold Φ₀ Xk
  iintro ⟨⟨⟨⟨%K, #HR⟩, Hr, Hu, Ha⟩, Hs, Hp⟩, HO, H0, H1, H2, H3, H4, H5⟩
  ihave HO := (owesAt_elim m c _ (O₀ c) rfl) $$ HO
  iapply (runBody (Cm m) (Qm m) K c (aX m c) (aWq m c) (aK m c) (aV m c) (aWo m c) rfl rfl _) $$ [Hr Hu Ha Hs HO H0 H1 H2 H3 H4 H5]
  · isplitr; · iexact HR
    unfold bodyPre
    isplitl [HO]; · iexact HO
    isplitl [Hr]; · iexact Hr
    isplitl [Hu]; · iexact Hu
    isplitl [Ha]; · iexact Ha
    isplitl [H0 H1 H2 H3 H4]
    · isplitl [H0]; · iexact H0
      isplitl [H1]; · iexact H1
      isplitl [H2]; · iexact H2
      isplitl [H3] <;> iassumption
    isplitl [H5]; · iexists _; iexact H5
    iexact Hs
  unfold bodyPost Φ₁
  iintro ⟨HO, Hb, Hz, ⟨H0, H1, H2, H3, H4⟩, H5, Hs⟩
  isplitl [Hb Hz Hs Hp]
  · isplitl [Hb]; · iexact Hb
    isplitl [Hz]; · iexact Hz
    isplitl [Hs] <;> iassumption
  isplitl [HO]; · iapply (owesAt_intro m c _ 0 rfl) $$ HO
  isplitl [H0]; · iexact H0
  isplitl [H1]; · iexact H1
  isplitl [H2]; · iexact H2
  isplitl [H3]; · iexact H3
  isplitl [H4]; · iexact H4
  iexact H5

set_option maxRecDepth 8000 in
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc
      ∗ (∃ d, owns (c : Thread nD τ) (Memref.whole cc0_stg0_0) fullShare ((dats m 0 c).before (0 : Fin 6) t0_0 d))
      ∗ (∃ d, owns (c : Thread nD τ) (Memref.whole cc0_stg1_0) fullShare ((dats m 0 c).before (1 : Fin 6) t0_0 d))
      ∗ (∃ d, owns (c : Thread nD τ) (Memref.whole cc0_stg2_0) fullShare ((dats m 0 c).before (2 : Fin 6) t0_0 d))
      ∗ (∃ d, owns (c : Thread nD τ) (Memref.whole cc0_stg3_0) fullShare ((dats m 0 c).before (3 : Fin 6) t0_0 d))
      ∗ (∃ d, owns (c : Thread nD τ) (Memref.whole cc0_stg4_0) fullShare ((dats m 0 c).before (4 : Fin 6) t0_0 d))
      ∗ (∃ d, owns (c : Thread nD τ) (Memref.whole cc0_stg5_0) fullShare ((dats m 0 c).before (5 : Fin 6) t0_0 d)))
    ⊢ wpc c (bodyAt0 t0_0) fun _ => iprop(Φ₁ c ∗ (dats m 0 c).owesAt () t0_0.succ
      ∗ owns (c : Thread nD τ) (Memref.whole cc0_stg0_0) fullShare (aX m c)
      ∗ owns (c : Thread nD τ) (Memref.whole cc0_stg1_0) fullShare (aWq m c)
      ∗ owns (c : Thread nD τ) (Memref.whole cc0_stg2_0) fullShare (aK m c)
      ∗ owns (c : Thread nD τ) (Memref.whole cc0_stg3_0) fullShare (aV m c)
      ∗ owns (c : Thread nD τ) (Memref.whole cc0_stg4_0) fullShare (aWo m c)
      ∗ owns (c : Thread nD τ) (Memref.whole cc0_stg5_0) fullShare (res m c))
  simp only [owns_whole_eq]
  iintro ⟨HΦ, HO, ⟨%d0, H0⟩, ⟨%d1, H1⟩, ⟨%d2, H2⟩, ⟨%d3, H3⟩, ⟨%d4, H4⟩, ⟨%d5, H5⟩⟩
  iapply (region_body m c d0 d1 d2 d3 d4 d5)
  isplitl [HΦ]; · iexact HΦ
  isplitl [HO]; · iexact HO
  isplitl [H0]; · iexact H0
  isplitl [H1]; · iexact H1
  isplitl [H2]; · iexact H2
  isplitl [H3]; · iexact H3
  isplitl [H4] <;> iassumption

end Cert.KernelIdeal.Talk

end
-- ==== Proof.Launch.lean ====
/-
  The run of the whole program: from any memory, semaphores at zero, it ends, every argument as it was, the result
  what the last host operation makes of `res`, and every semaphore at zero again.
-/
module

public import proofs.«01_k».proof.Proof.Run

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The region -/

abbrev TkM (c : Dev nD) : sProp 𝕄 := Tk (Cm m) (Qm m) c
abbrev XkM (c : Dev nD) : sProp 𝕄 := Xk (Cm m) (Qm m) c
def Yk (c : Dev nD) : sProp 𝕄 := semVal (barCell c) 0
/-- The buffers that the kernel's windows do not read or write. -/
abbrev restRefs : Finset (DevRef τ sig) := Pipeline.ucRefs τ sig \ Pipeline.arrRefs spec0

theorem held_none (c : Dev nD) (W : Valuation τ sig (Elt F)) : (StableHlo.held (c.tc : Thread nD τ) ∅ W : sProp 𝕄) = BI.emp := by
  unfold StableHlo.held
  exact BI.bigSep_empty

theorem enter (c : Dev nD) :
    iprop(Pipeline.scopedRest (Pipeline.pin (pcfgs (F := F)) adm 0).spec c ∗ (∃ r, prngReg c r) ∗ StableHlo.held (c.tc : Thread nD τ) ∅ (V1 m c) ∗ XkM m c)
      ⊢ (dats m 0 c).Φ 0 := by
  rw [show (dats m 0 c).Φ 0 = Φ₀ m c from rfl]
  refine (sep_mono (Entails.of_eq (scopedRest0_eq c)) .rfl).trans ?_
  unfold Φ₀ scratch
  iintro ⟨Hs, Hp, -, HX⟩
  isplitl [HX]; · iexact HX
  isplitl [Hs]; · iexact Hs
  iexact Hp

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (V2 m (outs m) c) ∗ Pipeline.ownSems0 osem c ∗ Yk c) := by
  rw [show (dats m 0 c).Φ (Fin.last _) = Φ₁ c from rfl, held_none, ownSems_eq]
  refine BI.Entails.trans ?_ (sep_mono (Entails.of_eq (scopedRest0_eq c).symm) .rfl)
  refine ent ?_
  unfold Φ₁ scratch Yk
  iintro ⟨Hb, Hz, Hs, Hp⟩
  isplitl [Hs]; · iexact Hs
  isplitl [Hp]; · iexact Hp
  isplitr; · iempintro
  isplitl [Hz] <;> iassumption

/-- What is owed over the region lies on levelled cells above the staging cells. -/
theorem owed_above (c : Dev nD) (t : Fin (cfg0.N + 1)) (g : GSem nD τ sig) (i : Unit) (h : 0 < (dats m 0 c).owed t g i) : i ∈ L g ∧ 0 < lv g i := by
  have h0 : 0 < O₀ c g i := by
    match t, h with
    | ⟨0, _⟩, h => exact h
    | ⟨_ + 1, _⟩, h => exact absurd h (Nat.lt_irrefl 0)
  rcases owed_pos h0 with ⟨d, _, _, rfl⟩ | ⟨d, _, hd, rfl⟩ | ⟨d, _, hd, rfl⟩
  · exact ⟨mem_L .., Nat.one_pos⟩
  · refine ⟨mem_L .., ?_⟩
    show 0 < lvOf _; rw [lv_r1 hd]; decide
  · refine ⟨mem_L .., ?_⟩
    show 0 < lvOf _; rw [lv_r2 hd]; decide

theorem stage_low (c : Dev nD) (w : Fin cfg0.W) (s) : lv ((c.tc : Thread nD τ), .dma ((cfg0.win w).sem s)) () ≤ 0 := by
  show lvOf (.dma ((cfg0.win w).sem s)) ≤ 0
  revert w s; decide

theorem rest_same (c : Dev nD) (b : DevRef τ sig) (hb : b ∈ restRefs \ ∅) : V2 m (outs m) c b = V1 m c b := by
  refine Function.update_of_ne (fun h => ?_) _ _
  subst h
  exact (Finset.mem_sdiff.mp (Finset.mem_sdiff.mp hb).1).2 (by decide)

set_option backward.isDefEq.respectTransparency.types false in
def region : RegionSeg (pcfgs (F := F)) adm (dats m) () defs₀ 𝒱₀ L lv 0 :=
  Pipeline.RegionSeg.ofTalk (pcfgs (F := F)) adm (dats m) () defs₀ 𝒱₀ L lv 0 osem ownFacts
    ∅ restRefs (Finset.empty_subset _) launch0.toP rfl (fun c => (body_obligation m c).loose)
    (fun _ => 0) O₀ (fun c => (zero_add _).symm) (fun c => rfl) (fun _ => rfl) (share_eq m)
    (V1 m) (V2 m (outs m)) (rest_same m)
    (TkM m) Yk (XkM m) Yk (open_cells (Cm m) (Qm m)) (enter m) (leave m)
    (fun c => by iintro H; imodintro; iexact H)
    (fun _ => 0)
    ⟨fun c w s => mem_L .., fun c w s => stage_low c w s, fun c t g i h => owed_above m c t g i h⟩
    (fun _ => iprop(emp))
    (fun c w => rfl) (final m)

/-- The buffers, those of the windows and the rest. -/
theorem held_split (c : Dev nD) (W : Valuation τ sig (Elt F)) :
    (StableHlo.held (c.tc : Thread nD τ) (Pipeline.ucRefs τ sig) W : sProp 𝕄)
      = iprop(StableHlo.held (c.tc : Thread nD τ) (Pipeline.arrRefs spec0) W ∗ StableHlo.held (c.tc : Thread nD τ) restRefs W) :=
  StableHlo.held_sub_split (c.tc) (Pipeline.arrRefs_sub_ucRefs spec0 (by decide)) W

/-- What rides along with the buffers before the region and after it. -/
def rest (i : Fin 2) (c : Dev nD) : sProp 𝕄 := match i with
  | 0 => iprop(TkM m c ∗ (∃ r, prngReg c r) ∗ ∃ W, owes (c : Thread nD τ) (O₀ c) W)
  | 1 => iprop(semVal (barCell c) 0 ∗ ∃ W, owes (c : Thread nD τ) (0 : CellTallies nD τ sig Unit) W)

theorem region_pre (c : Dev nD) : iprop(StableHlo.held (c : Thread nD τ) (Pipeline.ucRefs τ sig) (V1 m c) ∗ rest m 0 c) ⊢ (region m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) restRefs (V1 m c) ∗ emp) ∗ TkM m c ∗ ∃ Wd, owes (c : Thread nD τ) (0 + O₀ c) Wd)
  rw [held_split, zero_add]
  unfold rest
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem region_post (c : Dev nD) : (region m).post c
    ⊢ iprop(StableHlo.held (c : Thread nD τ) (Pipeline.ucRefs τ sig) (V2 m (outs m) c) ∗ rest m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) restRefs (V2 m (outs m) c) ∗ emp) ∗ Yk c
    ∗ ∃ Wd, owes (c : Thread nD τ) (0 : CellTallies nD τ sig Unit) Wd) ⊢ _
  rw [held_split]
  unfold rest Yk
  iintro ⟨Ha, -, ⟨Hr, -⟩, Hb, HO⟩
  isplitl [Ha Hr]; · isplitl [Ha] <;> iassumption
  isplitl [Hb]; · iexact Hb
  iexact HO

/-! ## The launch -/

/-- The ghost state at launch: the staging cells' and the protocol's. -/
def u₀ : UU :=
  (initOf (Pipeline.cells cfgs cellOf_inj) (Pipeline.launchToks cfgs cellOf_inj), launchOf barCells copyCells (barToks ∪ copyToks))

/-- A resource handed whole to one device. -/
def handTo (o : Dev nD) (X : sProp 𝕄) (c : Dev nD) : sProp 𝕄 := if c = o then X else iprop(emp)
theorem bigSep_handTo (o : Dev nD) (X : sProp 𝕄) : bigSep Finset.univ (handTo o X) = X := by
  have h : ∀ c ∈ Finset.univ.erase o, handTo o X c = (BI.emp : sProp 𝕄) := fun c hc => if_neg (Finset.ne_of_mem_erase hc)
  rw [bigSep_univ_at _ o, bigSep_congr h, BI.bigSep_emp_const, show handTo o X o = X from if_pos rfl]
  exact BI.equiv_iff.mp sep_emp

/-- The protocol's part of the launch, parked on device 0 until the cells are funded. -/
def parked : Dev nD → sProp 𝕄 := handTo 0 (BI.own (ER (launchOf barCells copyCells (barToks ∪ copyToks))))

theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unzip {A B : Dev nD → sProp 𝕄} : (bigSep Finset.univ fun c => iprop(A c ∗ B c)) ⊢ iprop(bigSep Finset.univ A ∗ bigSep Finset.univ B) :=
  Entails.of_eq (bigSep_sep' _ _ _)
theorem zip {A B : Dev nD → sProp 𝕄} : iprop(bigSep Finset.univ A ∗ bigSep Finset.univ B) ⊢ bigSep Finset.univ fun c => iprop(A c ∗ B c) :=
  Entails.of_eq (bigSep_sep' _ _ _).symm

/-- What a device has at launch besides the protocol's ghost state. -/
def luggage (c : Dev nD) : sProp 𝕄 := iprop(units c ∗ (∃ r, prngReg c r) ∗ owes (c : Thread nD τ) (O₀ c) ∅)

theorem rest_intro (K : GSem nD τ sig → ℕ) (c : Dev nD) : iprop(shared (Cm m) (Qm m) K ∗ (own c ∗ luggage c)) ⊢ rest m 0 c := by
  unfold luggage rest TkM Tk
  iintro ⟨#HS, Ho, Hu, Hp, HO⟩
  isplitl [Ho Hu]
  · isplitl [Ho]
    · iexists K
      isplitr; · iexact HS
      iexact Ho
    iexact Hu
  isplitl [Hp]; · iexact Hp
  iexists ∅; iexact HO

/-- The cells are funded and everything is dealt to the devices. -/
theorem launch :
    iprop((bigSep Finset.univ fun c : Dev nD => iprop(unscopedSems0 c ∗ owes (c : Thread nD τ) (O₀ c) ∅ ∗ Pipeline.launchCred O₀ c
          ∗ prngReg c (ρ c) ∗ parked c)) ∗ levAts L lv)
      ⊢ (|={Set.univ}=> bigSep Finset.univ (rest m 0) : sProp 𝕄) := by
  have hone (c : Dev nD) : iprop(unscopedSems0 c ∗ owes (c : Thread nD τ) (O₀ c) ∅ ∗ Pipeline.launchCred O₀ c ∗ prngReg c (ρ c) ∗ parked c)
      ⊢ (iprop(luggage c ∗ (semVal (barCell c) 0 ∗ parked c)) : sProp 𝕄) := by
    rw [unscoped_bar]
    unfold luggage
    iintro ⟨Hb, HO, Hc, Hp, HG⟩
    ihave Hu := (deal_units (F := F) c) $$ Hc
    isplitl [Hu HO Hp]
    · isplitl [Hu]; · iexact Hu
      isplitl [Hp]; · iexists (ρ c); iexact Hp
      iexact HO
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => bigSep Finset.univ fun kd : Fin 4 × Fin 7 => openTok ER (((c : Thread nD τ), osem kd) : GSem nD τ sig)) :=
    Entails.of_eq (by rw [bigSep_map, bigSep_univ_prod]; rfl)
  iintro ⟨H, -⟩
  ihave H := (show _ ⊢ (bigSep Finset.univ fun c : Dev nD => iprop(luggage c ∗ (semVal (barCell c) 0 ∗ parked c)) : sProp 𝕄) from
    bigSep_mono fun c _ => hone c) $$ H
  ihave H := unzip $$ H; icases H with ⟨HB, H⟩
  ihave H := unzip $$ H; icases H with ⟨Hv, HG⟩
  ihave Hu := (show bigSep Finset.univ (parked (F := F)) ⊢ BI.own (ER (launchOf barCells copyCells (barToks ∪ copyToks))) from
    Entails.of_eq (bigSep_handTo (F := F) 0 (BI.own (ER (launchOf barCells copyCells (barToks ∪ copyToks)))))) $$ HG
  imod (Rounds.fund_launch ER (talkRd (Cm m) (Qm m)) cells_disjoint (fun g _ h => h) (barToks ∪ copyToks)) $$ [Hv Hu] with ⟨%κ, -, #Hinv, #Hr, Hat, Hopen, Htok⟩
  · isplitl [Hv]
    · iapply hv $$ Hv
    · iexact Hu
  imodintro
  iapply (bigSep_with_persistent (R := shared (Cm m) (Qm m) κ) (Φ := fun c => iprop(own c ∗ luggage c)) fun c _ => rest_intro m κ c)
  isplitr
  · unfold shared
    isplitr; · iexact Hinv
    iexact Hr
  iapply zip
  isplitr [HB]
  · unfold own
    iapply zip; isplitl [Hat]; · iapply hat $$ Hat
    iapply zip; isplitl [Hopen]; · iapply hopen $$ Hopen
    iapply (Entails.of_eq (deal_rights (F := F))) $$ Htok
  · iexact HB

/-! ## The run -/

theorem unscoped_eq : ∀ sm : SemLoc sig, sm.isScoped .tc = false → sm = .reg barS := by decide

/-- What a device holds at the end. -/
abbrev Tₙ (c : Dev nD) : sProp 𝕄 := iprop(StableHlo.held (c : Thread nD τ) (Pipeline.ucRefs τ sig) (V3 m (outs m) c) ∗ semVal (barCell c) 0)

/-- What is read off a final memory. -/
def Reads (c : Dev nD) (s : MemSt nD τ sig (Elt F)) : Prop :=
  (∀ b ∈ Pipeline.ucRefs τ sig, s.mem ((c : Thread nD τ).1, b) = V3 m (outs m) c b) ∧ s.sem (barCell c) = 0

theorem ends (c : Dev nD) (s' : Phys nD τ sig (Elt F)) : iprop(Tₙ m c ∗ SI s') ⊢ (|={Set.univ}=> iprop(⌜Reads m c s'.mem⌝ ∗ SI s') : sProp 𝕄) := by
  unfold Tₙ StableHlo.held
  iintro ⟨⟨Hh, Hb⟩, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  icombine HSI Hb gives %hb
  imodintro
  isplitr
  · ipureintro; exact ⟨h, by simpa using hb⟩
  iexact HSI

set_option backward.isDefEq.respectTransparency.types false in
/-- THE RUN. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = V3 m (outs m) c b) ∧ r.2.sem = fun _ => 0) :=
  Pipeline.θ_run_regions_kit_dev_sems (pcfgs (F := F)) adm (dats m) () cellOf_inj EP defs₀ 𝒱₀ L lv m ρ main
    (segs m (outs m) 𝒱₀ L lv (rest m) () (dats m) (region m))
    (fun c Q => by
      rewrite [main_chain c, Seg.run_eq_chain,
        show (segs m (outs m) 𝒱₀ L lv (rest m) () (dats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne parked u₀
    (by
      unfold u₀ parked
      iintro Hu
      ihave H := (ownU_pair _ _) $$ Hu
      icases H with ⟨HP, HX⟩
      imodintro
      isplitl [HP]; · iexact HP
      rw [bigSep_handTo]; iexact HX)
    (T₀ := fun c => iprop(StableHlo.held (c : Thread nD τ) (Pipeline.ucRefs τ sig) (V0 m c) ∗ rest m 0 c))
    (Tₙ := Tₙ m)
    (hch := fun c => ⟨.rfl, region_pre m c, region_post m c, by
      show iprop(StableHlo.held (c : Thread nD τ) (Pipeline.ucRefs τ sig) (V3 m (outs m) c) ∗ rest m 1 c)
        ⊢ iprop(Tₙ m c ∗ ∃ W, owes (c : Thread nD τ) (0 : CellTallies nD τ sig Unit) W)
      unfold rest
      iintro ⟨Hh, Hb, HO⟩
      isplitr [HO]
      · isplitl [Hh] <;> iassumption
      · iexact HO⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ parked c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c
                ∗ prngReg c (ρ c) ∗ parked c)) : sProp 𝕄) := by
        rw [← bigSep_sep']
        exact bigSep_mono fun c _ => by
          rw [← Pipeline.unscopedBufs_held (Ix := Unit) (Name := ℕ) (U := UU) (Lvl := ℕ) c (V0 m c)]; exact BI.Entails.refl _
      iintro ⟨H, Hl⟩
      ihave H := hsplit $$ H
      icases H with ⟨Hh, Hr⟩
      imod (launch m ρ) $$ [Hr Hl] with HE
      · isplitl [Hr] <;> iassumption
      imodintro
      rw [bigSep_sep']
      isplitl [Hh] <;> iassumption)
    (QY := Reads m) (hfin := ends m)
    (hQ := fun s h hs => ⟨fun c => (h c).1, sem_eq_zero hs fun c sm hsm => by
      obtain rfl := unscoped_eq sm hsm
      exact (h c).2⟩)

/-- The arguments are as launched. -/
theorem args (c : Dev nD) (r : MemSt nD τ sig (Elt F)) (h : ∀ b ∈ Pipeline.ucRefs τ sig, r.mem ((c.tc : Thread nD τ).1, b) = V3 m (outs m) c b) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4) :=
  ⟨(h _ (Finset.mem_filter.mpr ⟨StableHlo.devRef_mem_tcRefs main_arg0, by decide⟩)).trans (V3_main_arg0 m (outs m) c),
    (h _ (Finset.mem_filter.mpr ⟨StableHlo.devRef_mem_tcRefs main_arg1, by decide⟩)).trans (V3_main_arg1 m (outs m) c),
    (h _ (Finset.mem_filter.mpr ⟨StableHlo.devRef_mem_tcRefs main_arg2, by decide⟩)).trans (V3_main_arg2 m (outs m) c),
    (h _ (Finset.mem_filter.mpr ⟨StableHlo.devRef_mem_tcRefs main_arg3, by decide⟩)).trans (V3_main_arg3 m (outs m) c),
    (h _ (Finset.mem_filter.mpr ⟨StableHlo.devRef_mem_tcRefs main_arg4, by decide⟩)).trans (V3_main_arg4 m (outs m) c)⟩

end Cert.KernelIdeal.Talk

end
-- ==== Proof.Frames.lean ====
/-
  The frames of the three programs, and the one rewrite of the kernel that the ideal program makes.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Frames

open Idealize.ShloMosaic Idealize.ShloMosaic.TcCoe Idealize.SL.Sem Cert.KernelIdeal.Talk

/-- Over any floats: the program ends, its arguments as they were and every semaphore at zero. -/
theorem any {F : FTy → Type} [FloatOps F] [Named F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0) :=
  (θ_run Cert.KernelIdeal.defs _ _).mono (fun r h => ⟨fun c => args m c r.2 (h.1 c), h.2⟩) (run_main m ρ)

/-- The kernel over the extended reals ends, its arguments as they were and every semaphore at zero. -/
theorem kernelIdeal : Cert.quiescent_KernelIdeal := fun m ρ _ => any (F := Ideal) m ρ

/-- At the bits a named constant is its word, so that the named program at the bits is the kernel. -/
local instance namedBits : Named Bits where
  named _ _ {φ} b := FloatOps.ofBits φ b

set_option maxRecDepth 10000 in
/-- The bodies of the two programs are one at the bits, -/
theorem same_defs₀ : Kernel.defs₀ (F := Bits) = KernelIdeal.defs₀ (F := Bits) := by
  refine congrArg Defs.onTc (funext fun l => funext fun a => ?_)
  match l, a with
  | ⟨0, _⟩, (_, _) => rfl
set_option maxRecDepth 10000 in
/-- and so are their procedures. -/
theorem same_defs : Kernel.defs (F := Bits) = KernelIdeal.defs (F := Bits) := congrArg (Pipeline.defs Kernel.pcfgs) same_defs₀

/-- The kernel over the machine's floats ends, its arguments as they were and every semaphore at zero. -/
theorem kernel : Cert.quiescent_Kernel := fun m ρ _ => by
  rw [same_defs]
  exact any (F := Bits) m ρ

/-- The reference over the extended reals ends, its arguments as they were and every semaphore at zero. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's large negative number is minus infinity over the extended reals. -/
theorem preserves : Cert.preserves_Kernel_KernelIdeal :=
  IdealRules.named_const.statement Cert.KernelIdeal.κ "mask" .f32 0xCE6E6B28#32 ⊥ rfl

end Cert.Frames

end
-- ==== Proof.Softmax.lean ====
module

public import Idealize.ShloMosaic.Lib.Pointwise

/-!
# Quotients of exponentials over the extended reals

A row of scores, some of them masked with `-∞`: whatever real number is subtracted from the row before the exponentials
are taken, the quotient of one exponential by the sum of the row is the same real number.
-/

@[expose] public section

noncomputable section

namespace Cert.Softmax

open Idealize.ShloMosaic

/-- The exponential of a score kept, nothing for one masked. -/
def kept (k : Prop) [Decidable k] (r : ℝ) : ℝ := if k then Real.exp r else 0

/-- A score kept, `-∞` for one masked. -/
def masked (k : Prop) [Decidable k] (r : ℝ) : EReal := if k then (r : EReal) else ⊥

theorem kept_nonneg (k : Prop) [Decidable k] (r : ℝ) : 0 ≤ kept k r := by
  unfold kept; split
  · exact (Real.exp_pos r).le
  · exact le_rfl

theorem exp_masked_sub (k : Prop) [Decidable k] (r M : ℝ) :
    Ideal.exp (masked k r - (M : EReal)) = ((kept k r * Real.exp (-M) : ℝ) : EReal) := by
  unfold masked kept
  split
  · rw [← EReal.coe_sub, Ideal.exp_coe, sub_eq_add_neg, Real.exp_add]
  · rw [EReal.bot_sub, Ideal.exp_bot, zero_mul, EReal.coe_zero]

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of one exponential by the row's sum. -/
theorem quotient {ι : Type} [Fintype ι] (k : ι → Prop) [∀ i, Decidable (k i)] (r : ι → ℝ) (M : ℝ) (hk : ∃ i, k i) (i : ι) :
    Ideal.div (Ideal.exp (masked (k i) (r i) - (M : EReal))) (∑ j, Ideal.exp (masked (k j) (r j) - (M : EReal)))
      = ((kept (k i) (r i) / ∑ j, kept (k j) (r j) : ℝ) : EReal) := by
  obtain ⟨i₀, h₀⟩ := hk
  have hpos : 0 < ∑ j, kept (k j) (r j) := by
    refine Finset.sum_pos' (fun j _ => kept_nonneg _ _) ⟨i₀, Finset.mem_univ _, ?_⟩
    unfold kept; rw [if_pos h₀]; exact Real.exp_pos _
  have he := Real.exp_pos (-M)
  simp only [exp_masked_sub]
  rw [coe_sum, ← Finset.sum_mul, Ideal.div_coe (mul_pos hpos he).ne', ← EReal.coe_mul]
  congr 1
  field_simp

/-- The greatest of a row of scores, not all of them masked, is a real number. -/
theorem fold_max_real {ι : Type} [Fintype ι] (k : ι → Prop) [∀ i, Decidable (k i)] (r : ι → ℝ) (hk : ∃ i, k i) :
    ∃ M : ℝ, Finset.univ.fold max (⊥ : EReal) (fun i => masked (k i) (r i)) = (M : EReal) := by
  obtain ⟨i₀, h₀⟩ := hk
  have hb : (r i₀ : EReal) ≤ Finset.univ.fold max (⊥ : EReal) (fun i => masked (k i) (r i)) :=
    Finset.le_fold_max _ |>.mpr (Or.inr ⟨i₀, Finset.mem_univ _, by unfold masked; rw [if_pos h₀]⟩)
  have ht : Finset.univ.fold max (⊥ : EReal) (fun i => masked (k i) (r i)) < ⊤ :=
    Finset.fold_max_lt _ |>.mpr ⟨bot_lt_top, fun i _ => by
      unfold masked; split
      · exact EReal.coe_lt_top _
      · exact bot_lt_top⟩
  exact ⟨_, (EReal.coe_toReal ht.ne (lt_of_lt_of_le (EReal.bot_lt_coe _) hb).ne').symm⟩

end Cert.Softmax

end
-- ==== Proof.KMask.lean ====
module

public import proofs.«01_k».proof.Proof.Vals
public import proofs.«01_k».proof.Proof.Softmax
public import Idealize.ShloMosaic.Lib.Pointwise

/-!
# The mask of the scores

The mask a device computes for its 256 rows by 1024 columns, lane by lane, and the same mask in words: a query of a batch
attends to a key of the same batch unless the query lies in the first block of 64 and the key in the second.
-/

@[expose] public section

noncomputable section

namespace Cert.KernelIdeal.Talk

open Cert.KernelIdeal Cert.KernelIdeal.Gen
open Idealize.ShloMosaic Idealize.ShloMosaic.TcCoe

/-- A lane's quotient rounded down, as it is spelt with signed division. -/
def floorDiv (a d : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt d 0#32)) (Scalar.extui (Scalar.cmpi .slt d 0#32))))
      (IntOp.cmpi .ne (IntOp.remsi .vector a d) 0#32))
    (IntOp.subi (IntOp.divsi .vector a d) 1#32) (IntOp.divsi .vector a d)

/-- The block rule of one query block and one key block. -/
def blockBit (q k : BitVec 32) : BitVec 1 :=
  IntOp.ori (IntOp.ori (IntOp.cmpi .eq q k) (IntOp.cmpi .eq k 0#32)) (IntOp.cmpi .eq (IntOp.remsi .vector (IntOp.addi q k) 3#32) 0#32)

/-- The mask of one lane: row `r`, column `l`. -/
def maskBit (r l : BitVec 32) : BitVec 1 :=
  IntOp.andi (IntOp.cmpi .eq (floorDiv r 128#32) (floorDiv (IntOp.remsi .vector l 256#32) 128#32))
    (blockBit (floorDiv (IntOp.remsi .vector r 128#32) 64#32) (floorDiv (IntOp.remsi .vector l 128#32) 64#32))

set_option maxRecDepth 16384 in
theorem expOf_apply (s : FVec Ideal S256x1024 .f32) (r : Fin 256) (l : Fin 1024) :
   expOf s (ix2 r l) =
     Ideal.exp (Scalar.select (maskBit (BitVec.ofNat 32 r.val) (BitVec.ofNat 32 l.val)) (s (ix2 r l)) ⊥
       - Finset.univ.fold max (⊥ : EReal) fun l' : Fin 1024 =>
           Scalar.select (maskBit (BitVec.ofNat 32 r.val) (BitVec.ofNat 32 l'.val)) (s (ix2 r l')) ⊥) := by
  pointwise [expOf, k0_pay21, k0_pay13, k0_pay14, k0_pay15, k0_pay16, k0_pay17, k0_pay18, k0_pay19, k0_pay20, rowNo, colNo]
  rfl

theorem rem_row : ∀ r : Fin 256, IntOp.remsi .vector (BitVec.ofNat 32 r.val) 128#32 = BitVec.ofNat 32 (r.val % 128) := by decide +kernel
theorem rem_col : ∀ r : Fin 1024, IntOp.remsi .vector (BitVec.ofNat 32 r.val) 128#32 = BitVec.ofNat 32 (r.val % 128) := by decide +kernel
theorem rem_head : ∀ r : Fin 1024, IntOp.remsi .vector (BitVec.ofNat 32 r.val) 256#32 = BitVec.ofNat 32 (r.val % 256) := by decide +kernel
theorem div_batch : ∀ r : Fin 256, floorDiv (BitVec.ofNat 32 r.val) 128#32 = BitVec.ofNat 32 (r.val / 128) := by decide +kernel
theorem div_block : ∀ r : Fin 128, floorDiv (BitVec.ofNat 32 r.val) 64#32 = BitVec.ofNat 32 (r.val / 64) := by decide +kernel
theorem blockBit_eq : ∀ q k : Fin 2, blockBit (BitVec.ofNat 32 q.val) (BitVec.ofNat 32 k.val) = BitVec.ofBool (decide (¬ (q.val = 0 ∧ k.val = 1))) := by decide +kernel
theorem batchBit_eq : ∀ q k : Fin 2, IntOp.cmpi .eq (BitVec.ofNat 32 q.val) (BitVec.ofNat 32 k.val) = BitVec.ofBool (decide (q.val = k.val)) := by decide +kernel

/-- Row `r` of a device's scores keeps column `l`: the same batch, and not a query of the first block with a key of the second. -/
def keep (r : Fin 256) (l : Fin 1024) : Prop := r.val / 128 = l.val % 256 / 128 ∧ ¬ (r.val % 128 / 64 = 0 ∧ l.val % 128 / 64 = 1)
instance (r : Fin 256) (l : Fin 1024) : Decidable (keep r l) := by unfold keep; infer_instance

theorem maskBit_eq (r : Fin 256) (l : Fin 1024) :
    maskBit (BitVec.ofNat 32 r.val) (BitVec.ofNat 32 l.val) = BitVec.ofBool (decide (keep r l)) := by
  have hr := r.isLt
  have hl := l.isLt
  have h1 := div_batch ⟨l.val % 256, by omega⟩
  have h2 := div_block ⟨r.val % 128, by omega⟩
  have h3 := div_block ⟨l.val % 128, by omega⟩
  have h4 := blockBit_eq ⟨r.val % 128 / 64, by omega⟩ ⟨l.val % 128 / 64, by omega⟩
  have h5 := batchBit_eq ⟨r.val / 128, by omega⟩ ⟨l.val % 256 / 128, by omega⟩
  dsimp only at h1 h2 h3 h4 h5
  rw [maskBit, rem_row, rem_col, rem_head, div_batch, h1, h2, h3, h4, h5]
  by_cases ha : r.val / 128 = l.val % 256 / 128
  · by_cases hb : ¬ (r.val % 128 / 64 = 0 ∧ l.val % 128 / 64 = 1)
    · rw [decide_eq_true ha, decide_eq_true hb, decide_eq_true (show keep r l from ⟨ha, hb⟩)]; rfl
    · rw [decide_eq_true ha, decide_eq_false hb, decide_eq_false (show ¬ keep r l from fun h => hb h.2)]; rfl
  · rw [decide_eq_false ha, decide_eq_false (show ¬ keep r l from fun h => ha h.1)]
    cases decide (¬ (r.val % 128 / 64 = 0 ∧ l.val % 128 / 64 = 1)) <;> rfl

/-- What the mask makes of a score that is a real number wherever it is kept. -/
theorem select_masked (s : EReal) (r : Fin 256) (l : Fin 1024) (x : ℝ) (h : keep r l → s = (x : EReal)) :
    Scalar.select (maskBit (BitVec.ofNat 32 r.val) (BitVec.ofNat 32 l.val)) s ⊥ = Softmax.masked (keep r l) x := by
  rw [maskBit_eq]
  unfold Softmax.masked
  by_cases hk : keep r l
  · rw [if_pos hk, ← h hk, decide_eq_true hk]; rfl
  · rw [if_neg hk, decide_eq_false hk]; rfl

/-- Every row keeps a column. -/
theorem keep_some (r : Fin 256) : ∃ l, keep r l :=
  ⟨⟨r.val, by have := r.isLt; omega⟩, by have := r.isLt; constructor <;> dsimp only <;> omega⟩

/-- A row's exponentials: of the scores kept, less one real number. -/
theorem expOf_row (s : FVec Ideal S256x1024 .f32) (r : Fin 256) (x : Fin 1024 → ℝ)
    (h : ∀ l, keep r l → s (ix2 r l) = (x l : EReal)) :
    ∃ M : ℝ, ∀ l, expOf s (ix2 r l) = Ideal.exp (Softmax.masked (keep r l) (x l) - (M : EReal)) := by
  obtain ⟨M, hM⟩ := Softmax.fold_max_real (keep r) x (keep_some r)
  refine ⟨M, fun l => ?_⟩
  rw [expOf_apply, select_masked _ r l (x l) (h l), ← hM]
  congr 3
  funext l'
  exact select_masked _ r l' (x l') (h l')

end Cert.KernelIdeal.Talk

end
-- ==== Proof.Blocks.lean ====
module

public import Idealize.ShloMosaic.Lib.Pointwise

/-!
# Sums cut into blocks

A sum over `m * k` positions as `m` sums over `k`, and what is left of it where all but one of the blocks are zero.
-/

@[expose] public section

namespace Cert.Blocks

/-- Position `b` of block `a`. -/
theorem at_lt {N m k : ℕ} (hN : N = m * k) (a : Fin m) (b : Fin k) : a.val * k + b.val < N := by
  subst hN
  calc a.val * k + b.val < a.val * k + k := Nat.add_lt_add_left b.isLt _
    _ = (a.val + 1) * k := (Nat.succ_mul _ _).symm
    _ ≤ m * k := Nat.mul_le_mul_right _ a.isLt

theorem div_at {m k : ℕ} (a : Fin m) (b : Fin k) : (a.val * k + b.val) / k = a.val := by
  rw [Nat.add_comm, Nat.add_mul_div_right _ _ (Fin.pos b), Nat.div_eq_of_lt b.isLt, Nat.zero_add]

theorem mod_at {m k : ℕ} (a : Fin m) (b : Fin k) : (a.val * k + b.val) % k = b.val := by
  rw [Nat.add_comm, Nat.add_mul_mod_self_right, Nat.mod_eq_of_lt b.isLt]

/-- A sum over all positions, block by block. -/
theorem sum_split {M : Type} [AddCommMonoid M] {N : ℕ} (m k : ℕ) (hN : N = m * k) (f : Fin N → M) :
    ∑ x, f x = ∑ a : Fin m, ∑ b : Fin k, f ⟨a.val * k + b.val, at_lt hN a b⟩ := by
  subst hN
  rw [← finProdFinEquiv.sum_comp f, Fintype.sum_prod_type]
  refine Finset.sum_congr rfl fun a _ => Finset.sum_congr rfl fun b _ => congrArg f (Fin.ext ?_)
  show b.val + k * a.val = a.val * k + b.val
  rw [Nat.add_comm, Nat.mul_comm]

/-- A sum all of whose blocks but `h` are zero. -/
theorem sum_block {M : Type} [AddCommMonoid M] {N : ℕ} (m k : ℕ) (hN : N = m * k) (f : Fin N → M) (h : Fin m)
    (h0 : ∀ x : Fin N, x.val / k ≠ h.val → f x = 0) :
    ∑ x, f x = ∑ b : Fin k, f ⟨h.val * k + b.val, at_lt hN h b⟩ := by
  rw [sum_split m k hN f, Finset.sum_eq_single h]
  · intro a _ ha
    refine Finset.sum_eq_zero fun b _ => h0 _ ?_
    rw [div_at]
    exact fun e => ha (Fin.ext e)
  · exact fun hh => absurd (Finset.mem_univ _) hh

end Cert.Blocks
-- ==== Proof.KCtx.lean ====
module

public import proofs.«01_k».proof.Proof.KMask
public import proofs.«01_k».proof.Proof.Blocks

/-!
# A device's context over the extended reals

The block-diagonal operands read at an index, the scores and the context as sums over one head.
-/

@[expose] public section

noncomputable section

namespace Cert.KernelIdeal.Talk

open Cert.KernelIdeal Cert.KernelIdeal.Gen
open Idealize.ShloMosaic Idealize.ShloMosaic.TcCoe

theorem readAt_idx (Val : EltTy → Type) (b : Ref sig .tc) (f : b.ty.Contents Val) (R : LoadRect b.ty.shape) (x : R.shape.Idx) :
    View.readAt Val (View.whole b) R f x = f (R.idx x) := rfl

theorem ix3_congr {α : Type} {p q s : ℕ} (f : (⟨3, ![p, q, s]⟩ : Shape).Idx → α) {a a' : Fin p} {b b' : Fin q} {c c' : Fin s}
    (ha : a.val = a'.val) (hb : b.val = b'.val) (hc : c.val = c'.val) : f (ix3 a b c) = f (ix3 a' b' c') := by
  rw [Fin.ext ha, Fin.ext hb, Fin.ext hc]

set_option maxRecDepth 16384 in
/-- The key operand at an index. -/
theorem kbd_apply (k : S4x64x256.Idx → Elt Ideal .bf16) (r : Fin 256) (n : Fin 1024) :
    kbd k (ix2 r n) = if r.val / 64 = n.val / 256 then
      k (ix3 (⟨n.val / 256, by omega⟩ : Fin 4) (⟨r.val % 64, by omega⟩ : Fin 64) (⟨n.val % 256, by omega⟩ : Fin 256)) else (0 : EReal) := by
  have hr := r.isLt
  have hn := n.isLt
  pointwise [kbd, kbd1, k0_pay1, k0_pay3, k0_pay5, k0_pay7, k0_pay9, VecWindow.put, readAt_idx]
  split
  · rw [if_pos (by omega)]
    exact ix3_congr k (by show 3 = n.val / 256; omega) (by show r.val - 192 = r.val % 64; omega) (by show n.val - 768 = n.val % 256; omega)
  split
  · rw [if_pos (by omega)]
    exact ix3_congr k (by show 2 = n.val / 256; omega) (by show r.val - 128 = r.val % 64; omega) (by show n.val - 512 = n.val % 256; omega)
  split
  · rw [if_pos (by omega)]
    exact ix3_congr k (by show 1 = n.val / 256; omega) (by show r.val - 64 = r.val % 64; omega) (by show n.val - 256 = n.val % 256; omega)
  split
  · rw [if_pos (by omega)]
    exact ix3_congr k (by show 0 = n.val / 256; omega) (by show r.val - 0 = r.val % 64; omega) (by show n.val - 0 = n.val % 256; omega)
  · rw [if_neg (by omega)]

set_option maxRecDepth 16384 in
/-- The value operand at an index. -/
theorem vbd_apply (v : S4x256x64.Idx → Elt Ideal .bf16) (r : Fin 1024) (n : Fin 256) :
    vbd v (ix2 r n) = if r.val / 256 = n.val / 64 then
      v (ix3 (⟨n.val / 64, by omega⟩ : Fin 4) (⟨r.val % 256, by omega⟩ : Fin 256) (⟨n.val % 64, by omega⟩ : Fin 64)) else (0 : EReal) := by
  have hr := r.isLt
  have hn := n.isLt
  pointwise [vbd, vbd3, vbd1, vhead3, k0_pay2, k0_pay4, k0_pay6, k0_pay8, k0_pay10, k0_pay11, VecWindow.put, readAt_idx]
  split
  · rw [if_pos (by omega)]
    exact ix3_congr v (by show 3 = n.val / 64; omega) (by show r.val - 768 = r.val % 256; omega) (by show n.val - 192 = n.val % 64; omega)
  split
  · rw [if_pos (by omega)]
    exact ix3_congr v (by show 2 = n.val / 64; omega) (by show r.val - 512 = r.val % 256; omega) (by show n.val - 128 = n.val % 64; omega)
  split
  · rw [if_pos (by omega)]
    exact ix3_congr v (by show 1 = n.val / 64; omega) (by show r.val - 256 = r.val % 256; omega) (by show n.val - 64 = n.val % 64; omega)
  split
  · rw [if_pos (by omega)]
    exact ix3_congr v (by show 0 = n.val / 64; omega) (by show r.val - 0 = r.val % 256; omega) (by show n.val - 0 = n.val % 64; omega)
  · rw [if_neg (by omega)]

set_option maxRecDepth 16384 in
/-- The score of row `r` with column `n` of head `h`: the sum over the head's 64 coordinates. -/
theorem scores_apply (x : S256x512.Idx → Elt Ideal .bf16) (wq : S512x256.Idx → Elt Ideal .bf16) (k : S4x64x256.Idx → Elt Ideal .bf16)
    (r : Fin 256) (h : Fin 4) (n : Fin 256) :
    scores (F := Ideal) x wq k (ix2 r ⟨h.val * 256 + n.val, Blocks.at_lt (m := 4) rfl h n⟩)
      = ∑ d : Fin 64, (∑ t : Fin 512, (x (ix2 r t) : EReal) * wq (ix2 t ⟨h.val * 64 + d.val, Blocks.at_lt (m := 4) rfl h d⟩)) * k (ix3 h d n) := by
  pointwise [scores, k0_pay12, kbd_apply]
  have e := Blocks.div_at h n
  rw [Blocks.sum_block 4 64 rfl _ h]
  · refine Finset.sum_congr rfl fun d _ => ?_
    rw [if_pos (by rw [e]; exact Blocks.div_at h d)]
    refine congrArg _ ?_
    exact ix3_congr k e (Blocks.mod_at h d) (Blocks.mod_at h n)
  · intro y hy
    rw [if_neg (by rw [e]; exact hy), mul_zero]

/-- The weight of column `h * 256 + n` in row `r`, from the row's exponentials `e`: the exponential over the sum of its head's. -/
def weight (e : FVec Ideal S256x1024 .f32) (r : Fin 256) (h : Fin 4) (n : Fin 256) : EReal :=
  Ideal.div (e (ix2 r ⟨h.val * 256 + n.val, Blocks.at_lt (m := 4) rfl h n⟩))
    (∑ n' : Fin 256, e (ix2 r ⟨h.val * 256 + n'.val, Blocks.at_lt (m := 4) rfl h n'⟩))

theorem weight_of (e : FVec Ideal S256x1024 .f32) (r : Fin 256) (h : Fin 4) (n : Fin 256) (a : Fin 1024) (f : Fin 256 → Fin 1024)
    (ha : a.val = h.val * 256 + n.val) (hf : ∀ n', (f n').val = h.val * 256 + n'.val) :
    Ideal.div (e (ix2 r a)) (∑ n', e (ix2 r (f n'))) = weight e r h n := by
  unfold weight
  rw [show a = ⟨h.val * 256 + n.val, Blocks.at_lt (m := 4) rfl h n⟩ from Fin.ext ha]
  refine congrArg _ (Finset.sum_congr rfl fun n' _ => ?_)
  rw [show f n' = ⟨h.val * 256 + n'.val, Blocks.at_lt (m := 4) rfl h n'⟩ from Fin.ext (hf n')]

set_option maxRecDepth 16384 in
/-- The product of the weights and a matrix, read at an index. -/
theorem pay23_apply (E : FVec Ideal S256x1024 .f32) (E0 : FVec Ideal S256x256 .f32) (v : FVec Ideal S1024x256 .bf16)
    (h0 : ∀ (r n : Fin 256), E0 (ix2 r n) = E (ix2 r ⟨n.val, by omega⟩)) (r n : Fin 256) :
    k0_pay23 E E0 v (ix2 r n)
      = ∑ x : Fin 1024, weight E r ⟨x.val / 256, by omega⟩ ⟨x.val % 256, by omega⟩ * v (ix2 x n) := by
  pointwise [k0_pay23, h0]
  refine Finset.sum_congr rfl fun x _ => ?_
  have hx := x.isLt
  refine congrArg (fun a : EReal => a * v (ix2 x n)) ?_
  split
  · exact weight_of E r _ _ _ _ (by show x.val = x.val / 256 * 256 + x.val % 256; omega)
      (fun n' => by show n'.val = x.val / 256 * 256 + n'.val; omega)
  split
  · exact weight_of E r _ _ _ _ (by show 256 + (x.val - 256) = x.val / 256 * 256 + x.val % 256; omega)
      (fun n' => by show 256 + n'.val = x.val / 256 * 256 + n'.val; omega)
  split
  · exact weight_of E r _ _ _ _ (by show 512 + (x.val - 256 - 256) = x.val / 256 * 256 + x.val % 256; omega)
      (fun n' => by show 512 + n'.val = x.val / 256 * 256 + n'.val; omega)
  · exact weight_of E r _ _ _ _ (by show 768 + (x.val - 256 - 256 - 256) = x.val / 256 * 256 + x.val % 256; omega)
      (fun n' => by show 768 + n'.val = x.val / 256 * 256 + n'.val; omega)

theorem exp0Of_apply (s : FVec Ideal S256x1024 .f32) (r n : Fin 256) : exp0Of s (ix2 r n) = expOf s (ix2 r ⟨n.val, by omega⟩) := by
  show extractStridedSlice S256x256 ![0, 0] (expOf s) slices_S256x1024_o0_0_S256x256 (ix2 r n) = _
  pointwise

/-- The context of row `r`, coordinate `d` of head `h`: the weighted sum of the head's values. -/
theorem ctxV_apply (x : S256x512.Idx → Elt Ideal .bf16) (wq : S512x256.Idx → Elt Ideal .bf16) (k : S4x64x256.Idx → Elt Ideal .bf16)
    (v : S4x256x64.Idx → Elt Ideal .bf16) (r : Fin 256) (h : Fin 4) (d : Fin 64) :
    ctxV (F := Ideal) x wq k v (ix2 r ⟨h.val * 64 + d.val, Blocks.at_lt (m := 4) rfl h d⟩)
      = ∑ n : Fin 256, weight (expOf (scores (F := Ideal) x wq k)) r h n * v (ix3 h n d) := by
  have e := Blocks.div_at h d
  unfold ctxV
  rw [pay23_apply _ _ _ (exp0Of_apply _), Blocks.sum_block 4 256 rfl _ h]
  · refine Finset.sum_congr rfl fun n _ => ?_
    rw [vbd_apply, if_pos (by rw [e]; exact Blocks.div_at h n)]
    refine congrArg₂ (fun a b : EReal => a * b) ?_ (ix3_congr v e (Blocks.mod_at h n) (Blocks.mod_at h d))
    congr 1
    · exact Fin.ext (Blocks.div_at h n)
    · exact Fin.ext (Blocks.mod_at h n)
  · intro y hy
    rw [vbd_apply, if_neg (by rw [e]; exact hy), mul_zero]

end Cert.KernelIdeal.Talk

end
-- ==== Proof.KHost.lean ====
module

public import proofs.«01_k».proof.Proof.Launch
public import proofs.«01_k».proof.Proof.Blocks
public import Idealize.ShloMosaic.Lib.Pointwise

/-!
# The kernel's operands at an index

What the program hands to the kernel on each device, in terms of the program's own arguments: the activations with the
batch and the position in one axis, the device's 256 columns of the query weights times one eighth, and its keys and values
with the head first.
-/

@[expose] public section

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ)

/-- The program's arguments on a device, as arrays of extended reals. -/
abbrev gX (c : Dev nD) : S2x128x512.Idx → EReal := m ((c.tc : Thread nD τ).loc main_arg0)
abbrev gWq (c : Dev nD) : S512x2048.Idx → EReal := m ((c.tc : Thread nD τ).loc main_arg1)
abbrev gK (c : Dev nD) : S2x128x4x64.Idx → EReal := m ((c.tc : Thread nD τ).loc main_arg2)
abbrev gV (c : Dev nD) : S2x128x4x64.Idx → EReal := m ((c.tc : Thread nD τ).loc main_arg3)
abbrev gWo (c : Dev nD) : S2048x512.Idx → EReal := m ((c.tc : Thread nD τ).loc main_arg4)

theorem aX_apply (c : Dev nD) (r : Fin 256) (t : Fin 512) :
    (aX m c (ix2 r t) : EReal) = gX m c (ix3 ⟨r.val / 128, by omega⟩ ⟨r.val % 128, by omega⟩ t) := by
  unfold aX
  unfold_abbrev_sides
  after_results
  show shapeCast S256x512 (gX m c) shapeCasts_S2x128x512_S256x512 (ix2 r t) = _
  pointwise

theorem aK_apply (c : Dev nD) (h : Fin 4) (d : Fin 64) (n : Fin 256) :
    (aK m c (ix3 h d n) : EReal) = gK m c (ix4 ⟨n.val / 128, by omega⟩ ⟨n.val % 128, by omega⟩ h d) := by
  unfold aK
  unfold_abbrev_sides
  after_results
  show shapeCast S4x64x256 (transpose S4x64x2x128 [2, 3, 0, 1] (gK m c) transposes_S2x128x4x64_S4x64x2x128_2_3_0_1)
    shapeCasts_S4x64x2x128_S4x64x256 (ix3 h d n) = _
  pointwise

theorem aV_apply (c : Dev nD) (h : Fin 4) (n : Fin 256) (d : Fin 64) :
    (aV m c (ix3 h n d) : EReal) = gV m c (ix4 ⟨n.val / 128, by omega⟩ ⟨n.val % 128, by omega⟩ h d) := by
  unfold aV
  unfold_abbrev_sides
  after_results
  show shapeCast S4x256x64 (transpose S4x2x128x64 [2, 0, 1, 3] (gV m c) transposes_S2x128x4x64_S4x2x128x64_2_0_1_3)
    shapeCasts_S4x2x128x64_S4x256x64 (ix3 h n d) = _
  pointwise

theorem aWo_eq (c : Dev nD) : aWo m c = gWo m c := V1_of m c main_arg4 (by decide)

theorem slice_scaled (x : S512x2048.Idx → EReal) (st : Fin 2 → ℤ) (o : ℕ) (ho : o + 256 ≤ 2048) (h0 : st 0 = 0) (h1 : st 1 = o)
    (t : Fin 512) (n : Fin 256) :
    mulf (F := Ideal) (φ := .bf16) (Host.dynamicSlice S512x256 x st sliceFits_S512x2048_S512x256)
      (broadcastInDim S512x256 ![] bcast_S_S512x256 (constant S_ .bf16 0x3E00#16)) (ix2 t n)
      = x (ix2 t ⟨o + n.val, by omega⟩) * Ideal.ofBits .bf16 0x3E00#16 := by
  have e0 : Host.clampedStart S512x2048 S512x256 sliceFits_S512x2048_S512x256.1 st 0 = 0 := by
    unfold Host.clampedStart; rw [h0]; rfl
  have e1 : Host.clampedStart S512x2048 S512x256 sliceFits_S512x2048_S512x256.1 st 1 = o := by
    unfold Host.clampedStart; rw [h1]
    show (min (max (o : ℤ) 0) ((2048 - 256 : ℕ) : ℤ)).toNat = o
    omega
  pointwise [e0, e1]

/-- Where a device's columns of the query weights begin, as the program computes it. -/
def startWord (c : Dev nD) : S_.Idx → BitVec 32 :=
  select (cmpi .slt (muli (id (Host.remui (Host.divui (constantI S_ 32 (Dev.word c)) (constantI S_ 32 1#32)) (constantI S_ 32 8#32))) (constantI S_ 32 256#32)) (constantI S_ 32 0#32))
    (addi (muli (id (Host.remui (Host.divui (constantI S_ 32 (Dev.word c)) (constantI S_ 32 1#32)) (constantI S_ 32 8#32))) (constantI S_ 32 256#32)) (constantI S_ 32 2048#32))
    (muli (id (Host.remui (Host.divui (constantI S_ 32 (Dev.word c)) (constantI S_ 32 1#32)) (constantI S_ 32 8#32))) (constantI S_ 32 256#32))

theorem startWord_eq : ∀ c : Dev nD, (startWord c (Shape.Idx.first h_S_)).toInt = ((c.val * 256 : ℕ) : ℤ) := by decide +kernel

theorem slice_at (x : S512x2048.Idx → EReal) (c : Dev nD) (W : Valuation τ sig (Elt Ideal))
    (he : ∀ k : Fin 2, (Proc.devRef (τ := τ) .tc (![main_c_4, main_v9] k)).ty = ⟨S_, .i32⟩)
    (h0 : W (Proc.devRef .tc main_c_4) = constantI S_ 32 0#32) (h1 : W (Proc.devRef .tc main_v9) = startWord c) (t : Fin 512) (n : Fin 256) :
    mulf (F := Ideal) (φ := .bf16)
      (Host.dynamicSlice S512x256 x
        (fun k => BitVec.toInt ((fun k => cast (congrArg (fun U => BufTy.Contents (Elt Ideal) U) (he k))
          (W (Proc.devRef .tc (![main_c_4, main_v9] k)))) k (Shape.Idx.first h_S_))) sliceFits_S512x2048_S512x256)
      (broadcastInDim S512x256 ![] bcast_S_S512x256 (constant S_ .bf16 0x3E00#16)) (ix2 t n)
      = x (ix2 t ⟨c.val * 256 + n.val, Blocks.at_lt (m := 8) rfl c n⟩) * Ideal.ofBits .bf16 0x3E00#16 := by
  refine slice_scaled x _ (c.val * 256) (by have := c.isLt; change _ < 8 at this; omega) ?_ ?_ t n
  · show BitVec.toInt ((W (Proc.devRef .tc main_c_4) : (⟨S_, .i32⟩ : BufTy).Contents (Elt Ideal)) (Shape.Idx.first h_S_)) = 0
    rw [h0]; rfl
  · show BitVec.toInt ((W (Proc.devRef .tc main_v9) : (⟨S_, .i32⟩ : BufTy).Contents (Elt Ideal)) (Shape.Idx.first h_S_)) = _
    rw [h1]; exact startWord_eq c

theorem aWq_apply (c : Dev nD) (t : Fin 512) (n : Fin 256) :
    (aWq m c (ix2 t n) : EReal) = gWq m c (ix2 t ⟨c.val * 256 + n.val, Blocks.at_lt (m := 8) rfl c n⟩) * Ideal.ofBits .bf16 0x3E00#16 := by
  unfold aWq
  unfold_abbrev_sides
  after_results
  refine slice_at (gWq m c) c _ (fun k => by fin_cases k <;> rfl) ?_ ?_ t n
  · after_results_simp
  · after_results_simp
    rfl

end Cert.KernelIdeal.Talk

end
-- ==== Proof.KOut.lean ====
module

public import proofs.«01_k».proof.Proof.KHost
public import proofs.«01_k».proof.Proof.KCtx

/-!
# The kernel's result at an index

Every element of the result, on every device, as one product of a row of the gathered contexts with a column of the output
weights.
-/

@[expose] public section

noncomputable section

namespace Cert.KernelIdeal.Talk

open Cert.KernelIdeal Cert.KernelIdeal.Gen
open Idealize.ShloMosaic Idealize.ShloMosaic.TcCoe

/-- Device `o`'s block at row `a`: the product of the row its strip gathers with the output weights. -/
theorem blkV_apply (C : Dev nD → S256x256.Idx → Elt Ideal .bf16) (wo : S2048x512.Idx → Elt Ideal .bf16) (o : Dev nD) (a : Fin 32) (n : Fin 512) :
    (blkV (F := Ideal) C wo o (ix2 a n) : EReal)
      = ∑ x : Fin 2048, (C ⟨x.val / 256, by show _ < 8; omega⟩ (ix2 ⟨32 * o.val + a.val, by have := o.isLt; change _ < 8 at this; omega⟩ ⟨x.val % 256, by omega⟩) : EReal)
          * wo (ix2 x n) := by
  have e : ∀ x : Fin 2048, stripV C o (ix2 a x)
      = C ⟨x.val / 256, by show _ < 8; omega⟩ (ix2 ⟨32 * o.val + a.val, by have := o.isLt; change _ < 8 at this; omega⟩ ⟨x.val % 256, by omega⟩) := fun x => by
    refine congrArg (C _) (funext fun b => ?_)
    fin_cases b <;> rfl
  pointwise [blkV, k0_pay34, k0_pay25, e]

variable (m : (ℓ : Loc nD τ sig) → Buf (Elt Ideal) ℓ)

/-- The result at row `r` and column `n`, whichever device holds it. -/
theorem res_apply (c : Dev nD) (r : Fin 256) (n : Fin 512) :
    (res m c (ix2 r n) : EReal)
      = ∑ x : Fin 2048, (Cm m ⟨x.val / 256, by show _ < 8; omega⟩ (ix2 r ⟨x.val % 256, by omega⟩) : EReal)
          * gWo m ⟨r.val / 32, by show _ < 8; omega⟩ (ix2 x n) := by
  have hb : inBlock (ix2 r n) = ix2 (⟨r.val % 32, by omega⟩ : Fin 32) n := funext fun b => by fin_cases b <;> rfl
  have key : res m c (ix2 r n) = blkV (Cm m) (aWo m (rowDev r.val r.isLt)) (rowDev r.val r.isLt) (ix2 ⟨r.val % 32, by omega⟩ n) := by
    unfold res outV
    rw [hb]
    split
    · rename_i h
      have hc : rowDev r.val r.isLt = c := Fin.ext h
      rw [hc]
    · rfl
  rw [key, aWo_eq, blkV_apply]
  refine Finset.sum_congr rfl fun x _ => ?_
  refine congrArg₂ (fun a b : EReal => a * b) ?_ rfl
  refine congrArg (fun y : Fin 256 => Cm m _ (ix2 y _)) (Fin.ext ?_)
  show 32 * (r.val / 32) + r.val % 32 = r.val
  omega

/-- The program's result on a device: the kernel's, with the batch and the position apart. -/
theorem final_apply (c : Dev nD) (b : Fin 2) (i : Fin 128) (n : Fin 512) :
    ((V3 m (outs m) c main_v18 : S2x128x512.Idx → Elt Ideal .f32) (ix3 b i n) : EReal)
      = res m c (ix2 ⟨b.val * 128 + i.val, Blocks.at_lt (m := 2) rfl b i⟩ n) := by
  have h : (V3 m (outs m) c main_v18 : S2x128x512.Idx → Elt Ideal .f32)
      = shapeCast S2x128x512 (res m c) shapeCasts_S256x512_S2x128x512 := by
    unfold_abbrev_sides
    after_results
    have h2 : V2 m (outs m) c main_v17 = res m c :=
      (Function.update_self (Proc.devRef .tc main_v17) (outs m 2 main_v17 c) (V1 m c)).trans (outs_res m c)
    exact congrArg (fun f : S256x512.Idx → Elt Ideal .f32 => shapeCast S2x128x512 f shapeCasts_S256x512_S2x128x512) h2
  rw [h]
  pointwise

end Cert.KernelIdeal.Talk

end
-- ==== Proof.Spec.lean ====
module

public import proofs.«01_k».proof.Proof.Softmax

/-!
# Block-sparse attention over the real numbers

The attention both programs compute, for real activations `x`, query weights `w` and keys `k`: the scores, the weights of
the keys of a query, the contexts and the result. The values `v` and the output weights `o` are extended real numbers.
-/

@[expose] public section

noncomputable section

namespace Cert.Spec

open Idealize.ShloMosaic

/-- The query at `i` attends to the key at `j`, unless it lies in the first block of 64 and the key in the second. -/
def keep (i j : Fin 128) : Prop := ¬ (i.val / 64 = 0 ∧ j.val / 64 = 1)
instance (i j : Fin 128) : Decidable (keep i j) := by unfold keep; infer_instance

/-- A query keeps the key at its own position. -/
theorem keep_self (i : Fin 128) : keep i i := fun h => by omega

variable (x : Fin 2 → Fin 128 → Fin 512 → ℝ) (w : Fin 512 → Fin 2048 → ℝ) (k : Fin 2 → Fin 128 → Fin 32 → Fin 64 → ℝ)
  (v : Fin 2 → Fin 128 → Fin 32 → Fin 64 → EReal) (o : Fin 2048 → Fin 512 → EReal)

/-- Component `d` of the query of head `h` at position `i` of batch `b`. -/
def query (b : Fin 2) (i : Fin 128) (h : Fin 32) (d : Fin 64) : ℝ := ∑ t : Fin 512, x b i t * w t ⟨h.val * 64 + d.val, by omega⟩

/-- The score of the key at `j`: one eighth of its product with the query. -/
def score (b : Fin 2) (i : Fin 128) (h : Fin 32) (j : Fin 128) : ℝ := (∑ d : Fin 64, query x w b i h d * k b j h d) * (1 / 8)

/-- The weight of the key at `j`. -/
def weight (b : Fin 2) (i : Fin 128) (h : Fin 32) (j : Fin 128) : ℝ :=
  Softmax.kept (keep i j) (score x w k b i h j) / ∑ j' : Fin 128, Softmax.kept (keep i j') (score x w k b i h j')

/-- The context: the values by their weights. -/
def context (b : Fin 2) (i : Fin 128) (h : Fin 32) (d : Fin 64) : EReal :=
  ∑ j : Fin 128, (weight x w k b i h j : EReal) * v b j h d

/-- The result. -/
def output (b : Fin 2) (i : Fin 128) (n : Fin 512) : EReal :=
  ∑ y : Fin 2048, context x w k v b i ⟨y.val / 64, by omega⟩ ⟨y.val % 64, by omega⟩ * o y n

/-- A product of real vectors, taken among the extended real numbers. -/
theorem coe_dot {ι : Type} [Fintype ι] (f g : ι → ℝ) : (∑ i, (f i : EReal) * (g i : EReal)) = ((∑ i, f i * g i : ℝ) : EReal) := by
  rw [← Softmax.coe_sum]
  exact Finset.sum_congr rfl fun i _ => (EReal.coe_mul _ _).symm

/-- One eighth, in both formats. -/
theorem eighth_bf16 : Ideal.ofBits .bf16 0x3E00#16 = ((1 / 8 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

end Cert.Spec

end
-- ==== Proof.KSpec.lean ====
module

public import proofs.«01_k».proof.Proof.KMask
public import proofs.«01_k».proof.Proof.KCtx
public import proofs.«01_k».proof.Proof.KHost
public import proofs.«01_k».proof.Proof.KOut
public import proofs.«01_k».proof.Proof.Spec

/-!
# The kernel computes the attention

With the activations, the query weights and the keys real numbers, and every device holding its four heads of the keys and
of the values, each device's result is the attention of `Spec`.
-/

@[expose] public section

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ)
variable (xr : Fin 2 → Fin 128 → Fin 512 → ℝ) (wr : Fin 512 → Fin 2048 → ℝ) (kr : Fin 2 → Fin 128 → Fin 32 → Fin 64 → ℝ)
  (vr : Fin 2 → Fin 128 → Fin 32 → Fin 64 → EReal) (or : Fin 2048 → Fin 512 → EReal)

/-- The devices hold these arrays: all of the activations and the weights, and four heads each of the keys and the values. -/
structure Holds : Prop where
  x : ∀ c b i t, gX m c (ix3 b i t) = (xr b i t : EReal)
  w : ∀ c t n, gWq m c (ix2 t n) = (wr t n : EReal)
  k : ∀ (c : Dev nD) b j (h : Fin 4) d, gK m c (ix4 b j h d) = (kr b j ⟨c.val * 4 + h.val, Blocks.at_lt (m := 8) rfl c h⟩ d : EReal)
  v : ∀ (c : Dev nD) b j (h : Fin 4) d, gV m c (ix4 b j h d) = vr b j ⟨c.val * 4 + h.val, Blocks.at_lt (m := 8) rfl c h⟩ d
  o : ∀ c y n, gWo m c (ix2 y n) = or y n

/-- Head `h` of device `c`. -/
def headOf (c : Dev nD) (h : Fin 4) : Fin 32 := ⟨c.val * 4 + h.val, Blocks.at_lt (m := 8) rfl c h⟩

/-- The score of the query of row `r` with the key of column `l` on device `c`, were both of one batch. -/
def colScore (c : Dev nD) (r : Fin 256) (l : Fin 1024) : ℝ :=
  Spec.score xr wr kr ⟨r.val / 128, by omega⟩ ⟨r.val % 128, by omega⟩ (headOf c ⟨l.val / 256, by omega⟩) ⟨l.val % 128, by omega⟩

variable {m xr wr kr vr or}

/-- A score that is kept. -/
theorem scores_real (H : Holds m xr wr kr vr or) (c : Dev nD) (r : Fin 256) (l : Fin 1024) (hl : keep r l) :
    scores (F := Ideal) (aX m c) (aWq m c) (aK m c) (ix2 r l) = (colScore xr wr kr c r l : EReal) := by
  have hb := hl.1
  have key := scores_apply (aX m c) (aWq m c) (aK m c) r ⟨l.val / 256, by omega⟩ ⟨l.val % 256, by omega⟩
  have el : (⟨l.val / 256 * 256 + l.val % 256, by omega⟩ : Fin 1024) = l := Fin.ext (Nat.div_add_mod' l.val 256)
  dsimp only at key
  rw [el] at key
  rw [key]
  refine (Finset.sum_congr rfl fun d _ => congrArg₂ (· * ·)
    (Finset.sum_congr rfl fun t _ => congrArg₂ (· * ·) ((aX_apply m c _ _).trans (H.x _ _ _ _))
      ((aWq_apply m c _ _).trans (congrArg₂ (· * ·) (H.w _ _ _) Spec.eighth_bf16)))
    ((aK_apply m c _ _ _).trans (H.k _ _ _ _ _))).trans ?_
  simp only [← EReal.coe_mul, Softmax.coe_sum]
  refine congrArg _ ?_
  unfold colScore Spec.score Spec.query
  rw [Finset.sum_mul]
  refine Finset.sum_congr rfl fun d _ => ?_
  rw [Finset.sum_mul, Finset.sum_mul, Finset.sum_mul]
  refine Finset.sum_congr rfl fun t _ => ?_
  have e1 : (⟨l.val % 256 / 128, by omega⟩ : Fin 2) = ⟨r.val / 128, by omega⟩ := Fin.ext hb.symm
  have e2 : (⟨l.val % 256 % 128, by omega⟩ : Fin 128) = ⟨l.val % 128, by omega⟩ := Fin.ext (by show _ % _ % _ = _ % _; omega)
  have e3 : (⟨c.val * 256 + (l.val / 256 * 64 + d.val), by have := c.isLt; have : nD = 8 := rfl; omega⟩ : Fin 2048)
      = ⟨(headOf c ⟨l.val / 256, by omega⟩).val * 64 + d.val, by omega⟩ := Fin.ext (by
        show c.val * 256 + (l.val / 256 * 64 + d.val) = (c.val * 4 + l.val / 256) * 64 + d.val; omega)
  rw [e1, e2, e3]
  show _ * (_ * _) * _ = _ * _ * kr _ _ ⟨_, _⟩ _ * _
  ring

/-- A row's columns of one head that are kept are those of the row's own batch. -/
theorem keep_iff (r : Fin 256) (h : Fin 4) (n : Fin 256) :
    keep r ⟨h.val * 256 + n.val, Blocks.at_lt (m := 4) rfl h n⟩
      ↔ n.val / 128 = r.val / 128 ∧ Spec.keep ⟨r.val % 128, by omega⟩ ⟨n.val % 128, by omega⟩ := by
  have e1 : (h.val * 256 + n.val) % 256 = n.val := Blocks.mod_at h n
  have e2 : (h.val * 256 + n.val) % 128 = n.val % 128 := by omega
  unfold keep Spec.keep
  dsimp only
  rw [e1, e2]
  exact and_congr_left fun _ => eq_comm

/-- Row `r` as a batch and a position. -/
def batchOf (r : Fin 256) : Fin 2 := ⟨r.val / 128, by omega⟩
def posOf (r : Fin 256) : Fin 128 := ⟨r.val % 128, by omega⟩

/-- A sum over both batches of which only the block of one batch counts. -/
theorem sum_batch {M : Type} [AddCommMonoid M] (b : Fin 2) (f : Fin 128 → M) :
    (∑ n : Fin 256, if n.val / 128 = b.val then f (posOf n) else 0) = ∑ j, f j := by
  rw [Blocks.sum_block 2 128 rfl _ b fun n hn => if_neg hn]
  refine Finset.sum_congr rfl fun j _ => ?_
  rw [if_pos (Blocks.div_at b j)]
  exact congrArg f (Fin.ext (Blocks.mod_at b j))

variable (xr wr kr) in
theorem colScore_eq (c : Dev nD) (r : Fin 256) (h : Fin 4) (n : Fin 256) :
    colScore xr wr kr c r ⟨h.val * 256 + n.val, Blocks.at_lt (m := 4) rfl h n⟩
      = Spec.score xr wr kr (batchOf r) (posOf r) (headOf c h) (posOf n) := by
  have e1 : (⟨(h.val * 256 + n.val) / 256, by omega⟩ : Fin 4) = h := Fin.ext (Blocks.div_at h n)
  have e2 : (⟨(h.val * 256 + n.val) % 128, by omega⟩ : Fin 128) = posOf n := Fin.ext (by show _ % 128 = n.val % 128; omega)
  unfold colScore
  dsimp only
  rw [e1, e2]
  rfl

variable (xr wr kr) in
/-- What a column adds to the sum of its row: nothing in the other batch. -/
theorem kept_col (c : Dev nD) (r : Fin 256) (h : Fin 4) (n : Fin 256) :
    Softmax.kept (keep r ⟨h.val * 256 + n.val, Blocks.at_lt (m := 4) rfl h n⟩)
        (colScore xr wr kr c r ⟨h.val * 256 + n.val, Blocks.at_lt (m := 4) rfl h n⟩)
      = if n.val / 128 = (batchOf r).val then
          Softmax.kept (Spec.keep (posOf r) (posOf n)) (Spec.score xr wr kr (batchOf r) (posOf r) (headOf c h) (posOf n))
        else 0 := by
  rw [colScore_eq]
  have hk := keep_iff r h n
  unfold Softmax.kept
  by_cases hb : n.val / 128 = (batchOf r).val
  · rw [if_pos hb]
    exact if_congr (hk.trans (and_iff_right hb)) rfl rfl
  · rw [if_neg hb, if_neg fun hh => hb (hk.mp hh).1]

/-- A weight: that of the attention in the row's own batch, nothing in the other one. -/
theorem weight_real (H : Holds m xr wr kr vr or) (c : Dev nD) (r : Fin 256) (h : Fin 4) (n : Fin 256) :
    weight (expOf (scores (F := Ideal) (aX m c) (aWq m c) (aK m c))) r h n
      = if n.val / 128 = (batchOf r).val then
          (Spec.weight xr wr kr (batchOf r) (posOf r) (headOf c h) (posOf n) : EReal)
        else 0 := by
  obtain ⟨M, hM⟩ := expOf_row (scores (F := Ideal) (aX m c) (aWq m c) (aK m c)) r (colScore xr wr kr c r)
    fun l hl => scores_real H c r l hl
  have hs : ∃ n : Fin 256, keep r ⟨h.val * 256 + n.val, Blocks.at_lt (m := 4) rfl h n⟩ :=
    ⟨r, (keep_iff r h r).mpr ⟨rfl, Spec.keep_self _⟩⟩
  unfold weight
  simp only [hM]
  refine (Softmax.quotient (fun n : Fin 256 => keep r ⟨h.val * 256 + n.val, Blocks.at_lt (m := 4) rfl h n⟩)
    (fun n => colScore xr wr kr c r ⟨h.val * 256 + n.val, Blocks.at_lt (m := 4) rfl h n⟩) M hs n).trans ?_
  have hsum := sum_batch (batchOf r) fun j =>
    Softmax.kept (Spec.keep (posOf r) j) (Spec.score xr wr kr (batchOf r) (posOf r) (headOf c h) j)
  simp only [kept_col]
  rw [hsum]
  split
  · rfl
  · rw [zero_div]; rfl

/-- A device's contexts: those of its heads. -/
theorem Cm_real (H : Holds m xr wr kr vr or) (c : Dev nD) (r : Fin 256) (y : Fin 256) :
    (Cm m c (ix2 r y) : EReal)
      = Spec.context xr wr kr vr (batchOf r) (posOf r) (headOf c ⟨y.val / 64, by omega⟩) ⟨y.val % 64, by omega⟩ := by
  have key := ctxV_apply (aX m c) (aWq m c) (aK m c) (aV m c) r ⟨y.val / 64, by omega⟩ ⟨y.val % 64, by omega⟩
  have ey : (⟨y.val / 64 * 64 + y.val % 64, by omega⟩ : Fin 256) = y := Fin.ext (Nat.div_add_mod' y.val 64)
  dsimp only at key
  rw [ey] at key
  refine (show (Cm m c (ix2 r y) : EReal) = _ from key).trans ?_
  unfold Spec.context
  rw [← sum_batch (batchOf r)]
  refine Finset.sum_congr rfl fun n _ => ?_
  rw [weight_real H]
  by_cases hb : n.val / 128 = (batchOf r).val
  · rw [if_pos hb, if_pos hb]
    refine congrArg _ (((aV_apply m c _ _ _).trans (H.v _ _ _ _ _)).trans ?_)
    exact congrArg (fun b => vr b _ _ _) (Fin.ext hb)
  · rw [if_neg hb, if_neg hb, zero_mul]

/-- A device's result. -/
theorem final_real (H : Holds m xr wr kr vr or) (c : Dev nD) (b : Fin 2) (i : Fin 128) (n : Fin 512) :
    ((V3 m (outs m) c main_v18 : S2x128x512.Idx → Elt Ideal .f32) (ix3 b i n) : EReal)
      = Spec.output xr wr kr vr or b i n := by
  refine (final_apply m c b i n).trans ((res_apply m c _ n).trans ?_)
  unfold Spec.output
  refine Finset.sum_congr rfl fun y _ => congrArg₂ (· * ·) ((Cm_real H _ _ _).trans ?_) (H.o _ _ _)
  have e1 : batchOf ⟨b.val * 128 + i.val, Blocks.at_lt (m := 2) rfl b i⟩ = b := Fin.ext (Blocks.div_at b i)
  have e2 : posOf ⟨b.val * 128 + i.val, Blocks.at_lt (m := 2) rfl b i⟩ = i := Fin.ext (Blocks.mod_at b i)
  rw [e1, e2]
  refine congrArg₂ (Spec.context xr wr kr vr b i) (Fin.ext ?_) (Fin.ext ?_)
  · show y.val / 256 * 4 + y.val % 256 / 64 = y.val / 64
    omega
  · show y.val % 256 % 64 = y.val % 64
    omega

end Cert.KernelIdeal.Talk

end
-- ==== Proof.RVal.lean ====
module

public import proofs.«01_k».proof.Proof.Gen.ReferenceIdeal.Run
public import proofs.«01_k».proof.Proof.Spec
public import Idealize.ShloMosaic.Lib.Pointwise
public import Idealize.ShloMosaic.Lib.Tactic.CleanTypes
public import Idealize.ShloMosaic.Lib.Routing.OpsOrder

/-!
# The reference at an index

The reference's arrays, step by step (the numbers of the blocks, the mask, the masked scores, their exponentials, the
weights, the contexts, the result), and each of them at an index.
-/

@[expose] public section

noncomputable section

namespace Cert.ReferenceIdeal.Read

open Cert.ReferenceIdeal Cert.ReferenceIdeal.Gen Cert.ReferenceIdeal.Value
open Idealize.ShloMosaic Idealize.ShloMosaic.TcCoe
open Cert.Spec (keep keep_self)

/-! ## The mask -/

/-- The number of the block of 64 of each position. -/
def blockNo : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- The block numbers of the keys, as a row. -/
def keyBlock : IVec S1x128 32 := broadcastInDim S1x128 ![1] bcast_S128_S1x128_1 blockNo

/-- The block number of each pair's query and of its key. -/
def queryBlocks : IVec S128x128 32 :=
  broadcastInDim S128x128 ![0, 1] bcast_S128x1_S128x128_0_1 (broadcastInDim S128x1 ![0] bcast_S128_S128x1_0 blockNo)
def keyBlocks : IVec S128x128 32 := broadcastInDim S128x128 ![0, 1] bcast_S1x128_S128x128_0_1 keyBlock

/-- The divisor of the block rule. -/
def three : IVec S_ 32 :=
  select (cmpi .eq (id (constantI S_ 32 3#32)) (constantI S_ 32 0#32)) (constantI S_ 32 1#32) (id (constantI S_ 32 3#32))

/-- The remainder of the sum of both block numbers, before its sign is set right. -/
def blockRem : IVec S128x128 32 :=
  Host.remsi (addi queryBlocks keyBlocks) (broadcastInDim S128x128 ![] bcast_S_S128x128 three)

/-- The mask: which pairs of a query and a key are kept. -/
def mask : IVec S128x128 1 :=
  ori
    (ori (cmpi .eq queryBlocks keyBlocks)
      (broadcastInDim S128x128 ![0, 1] bcast_S1x128_S128x128_0_1
        (cmpi .eq keyBlock (broadcastInDim S1x128 ![] bcast_S_S1x128 (constantI S_ 32 0#32)))))
    (cmpi .eq
      (select
        (andi
          (cmpi .ne (cmpi .slt blockRem (broadcastInDim S128x128 ![] bcast_S_S128x128 (constantI S_ 32 0#32)))
            (broadcastInDim S128x128 ![] bcast_S_S128x128 (cmpi .slt three (constantI S_ 32 0#32))))
          (cmpi .ne blockRem (broadcastInDim S128x128 ![] bcast_S_S128x128 (constantI S_ 32 0#32))))
        (addi blockRem (broadcastInDim S128x128 ![] bcast_S_S128x128 three)) blockRem)
      (broadcastInDim S128x128 ![] bcast_S_S128x128 (constantI S_ 32 0#32)))

/-- Whether a query keeps any key. -/
def rowKeep : IVec S128 1 := Host.reduce IntOp.ori mask (constantI S_ 1 0#1) reducesTo_S128x128_S128_d1 h_S_

/-! ## The values -/

/-- The queries, head by head. -/
def queries (x : FVec Ideal S2x128x512 .bf16) (wq : FVec Ideal S512x2048 .bf16) : FVec Ideal S2x128x32x64 .bf16 :=
  shapeCast _ (truncf .bf16 (Host.dotGeneral dot_S2x128x512_S512x2048_S2x128x2048_2_0_01_1_n_n none x wq) bitsLt_bf16_f32)
    shapeCasts_S2x128x2048_S2x128x32x64

/-- The masked scores. -/
def maskedScores (q k : FVec Ideal S2x128x32x64 .bf16) : FVec Ideal S2x32x128x128 .f32 :=
  select
    (broadcastInDim S2x32x128x128 ![0, 1, 2, 3] bcast_S1x1x128x128_S2x32x128x128_0_1_2_3
      (broadcastInDim S1x1x128x128 ![2, 3] bcast_S128x128_S1x1x128x128_2_3 mask))
    (mulf
      (extf .f32
        (truncf .bf16 (Host.dotGeneral dot_S2x128x32x64_S2x128x32x64_S2x32x128x128_3_3_1_1_02_02 none q k) bitsLt_bf16_f32)
        bitsLt_bf16_f32)
      (broadcastInDim S2x32x128x128 ![] bcast_S_S2x32x128x128 (constant S_ .f32 0x3E000000#32)))
    (broadcastInDim S2x32x128x128 ![] bcast_S_S2x32x128x128 (id (constant S_ .f32 0xFF800000#32)))

/-- Their exponentials, less the row's greatest. -/
def exps (z : FVec Ideal S2x32x128x128 .f32) : FVec Ideal S2x32x128x128 .f32 :=
  Host.exp
    (subf z
      (broadcastInDim S2x32x128x128 ![0, 1, 2, 3] bcast_S2x32x128x1_S2x32x128x128_0_1_2_3
        (broadcastInDim S2x32x128x1 ![0, 1, 2] bcast_S2x32x128_S2x32x128x1_0_1_2
          (Host.reduce FloatOps.maximumf z (constant S_ .f32 0xFF800000#32) reducesTo_S2x32x128x128_S2x32x128_d3 h_S_))))

/-- The weights: each exponential by its row's sum. -/
def weights (e : FVec Ideal S2x32x128x128 .f32) : FVec Ideal S2x32x128x128 .f32 :=
  select
    (broadcastInDim S2x32x128x128 ![0, 1, 2, 3] bcast_S1x1x128x1_S2x32x128x128_0_1_2_3
      (broadcastInDim S1x1x128x1 ![2] bcast_S128_S1x1x128x1_2 rowKeep))
    (Host.divf e
      (broadcastInDim S2x32x128x128 ![0, 1, 2, 3] bcast_S2x32x128x1_S2x32x128x128_0_1_2_3
        (select
          (broadcastInDim S2x32x128x1 ![0, 1, 2, 3] bcast_S1x1x128x1_S2x32x128x1_0_1_2_3
            (broadcastInDim S1x1x128x1 ![2] bcast_S128_S1x1x128x1_2 rowKeep))
          (broadcastInDim S2x32x128x1 ![0, 1, 2] bcast_S2x32x128_S2x32x128x1_0_1_2
            (Host.reduceAdd e (constant S_ .f32 0x00000000#32) reducesTo_S2x32x128x128_S2x32x128_d3 h_S_))
          (broadcastInDim S2x32x128x1 ![] bcast_S_S2x32x128x1 (id (constant S_ .f32 0x3F800000#32))))))
    (broadcastInDim S2x32x128x128 ![] bcast_S_S2x32x128x128 (id (constant S_ .f32 0x00000000#32)))

/-- The contexts, the heads side by side. -/
def contexts (w : FVec Ideal S2x32x128x128 .f32) (v : FVec Ideal S2x128x32x64 .bf16) : FVec Ideal S2x128x2048 .f32 :=
  shapeCast _
    (transpose S2x128x32x64 [0, 3, 1, 2]
      (Host.dotGeneral dot_S2x128x32x64_S2x32x128x128_S2x32x64x128_1_3_3_2_02_01 none (extf .f32 v bitsLt_bf16_f32) w)
      transposes_S2x32x64x128_S2x128x32x64_0_3_1_2)
    shapeCasts_S2x128x32x64_S2x128x2048

/-- The result. -/
def result (a : FVec Ideal S2x128x2048 .f32) (wo : FVec Ideal S2048x512 .bf16) : FVec Ideal S2x128x512 .f32 :=
  Host.dotGeneral dot_S2x128x2048_S2048x512_S2x128x512_2_0_01_1_n_n none a (extf .f32 wo bitsLt_bf16_f32)

variable (m : (ℓ : Loc nD τ sig) → Buf (Elt Ideal) ℓ)

/-- The program's arguments, as arrays of extended reals. -/
abbrev gX (c : Dev nD) : S2x128x512.Idx → EReal := m ((c.tc : Thread nD τ).loc main_arg0)
abbrev gWq (c : Dev nD) : S512x2048.Idx → EReal := m ((c.tc : Thread nD τ).loc main_arg1)
abbrev gK (c : Dev nD) : S2x128x32x64.Idx → EReal := m ((c.tc : Thread nD τ).loc main_arg2)
abbrev gV (c : Dev nD) : S2x128x32x64.Idx → EReal := m ((c.tc : Thread nD τ).loc main_arg3)
abbrev gWo (c : Dev nD) : S2048x512.Idx → EReal := m ((c.tc : Thread nD τ).loc main_arg4)

set_option maxRecDepth 32768 in
/-- The reference's result is these steps, one after the other. -/
theorem res_eq (c : Dev nD) :
    res_main_v49 m c
      = result (contexts (weights (exps (maskedScores (queries (gX m c) (gWq m c)) (gK m c)))) (gV m c)) (gWo m c) := rfl

/-! ## At an index -/

theorem neg_inf : Ideal.ofBits .f32 0xFF800000#32 = (⊥ : EReal) := by
  rfl

/-- The sign of an integer. -/
def sgn (a : BitVec 32) : BitVec 32 := if a = 0 then 0 else if a.msb = true then -1 else 1

/-- A quotient rounded down, as it is spelt with signed division. -/
def floorDiv (a d : BitVec 32) : BitVec 32 :=
  Scalar.select
    (IntOp.andi (IntOp.cmpi .ne (sgn a) (sgn d)) (IntOp.cmpi .ne (IntOp.remsi .host a d) 0#32))
    (IntOp.subi (IntOp.divsi .host a d) 1#32) (IntOp.divsi .host a d)

theorem blockNo_apply (i : Fin 128) : blockNo (ix1 i) = floorDiv (BitVec.ofNat 32 i.val) 64#32 := by
  pointwise [blockNo]
  rfl

theorem div_block : ∀ i : Fin 128, floorDiv (BitVec.ofNat 32 i.val) 64#32 = BitVec.ofNat 32 (i.val / 64) := by decide +kernel

/-- The block rule of one query block and one key block. -/
def blockBit (q k : BitVec 32) : BitVec 1 :=
  IntOp.ori (IntOp.ori (IntOp.cmpi .eq q k) (IntOp.cmpi .eq k 0#32))
    (IntOp.cmpi .eq
      (Scalar.select
        (IntOp.andi
          (IntOp.cmpi .ne (IntOp.cmpi .slt (IntOp.remsi .host (IntOp.addi q k) 3#32) 0#32) (IntOp.cmpi .slt 3#32 0#32))
          (IntOp.cmpi .ne (IntOp.remsi .host (IntOp.addi q k) 3#32) 0#32))
        (IntOp.addi (IntOp.remsi .host (IntOp.addi q k) 3#32) 3#32) (IntOp.remsi .host (IntOp.addi q k) 3#32)) 0#32)

theorem mask_blocks (i j : Fin 128) : mask (ix2 i j) = blockBit (blockNo (ix1 i)) (blockNo (ix1 j)) := by
  pointwise [mask, queryBlocks, keyBlocks, keyBlock, three, blockRem]
  rfl

theorem blockBit_eq : ∀ q k : Fin 2,
    blockBit (BitVec.ofNat 32 q.val) (BitVec.ofNat 32 k.val) = BitVec.ofBool (decide (¬ (q.val = 0 ∧ k.val = 1))) := by
  decide +kernel

theorem mask_apply (i j : Fin 128) : mask (ix2 i j) = BitVec.ofBool (decide (keep i j)) := by
  have hi := i.isLt
  have hj := j.isLt
  have h := blockBit_eq ⟨i.val / 64, by omega⟩ ⟨j.val / 64, by omega⟩
  dsimp only at h
  rw [mask_blocks, blockNo_apply, blockNo_apply, div_block, div_block, h]
  by_cases hk : ¬ (i.val / 64 = 0 ∧ j.val / 64 = 1)
  · rw [decide_eq_true hk, decide_eq_true (show keep i j from hk)]
  · rw [decide_eq_false hk, decide_eq_false (show ¬ keep i j from hk)]

theorem rowKeep_apply (i : Fin 128) : rowKeep (ix1 i) = 1#1 := by
  pointwise [rowKeep]
  exact (Idealize.ShloMosaic.Routing.fold_ori _ _).mpr ⟨i, Finset.mem_univ _, by rw [mask_apply, decide_eq_true (keep_self i)]; rfl⟩

theorem queries_apply (x : FVec Ideal S2x128x512 .bf16) (wq : FVec Ideal S512x2048 .bf16) (b : Fin 2) (i : Fin 128)
    (h : Fin 32) (d : Fin 64) :
    queries x wq (ix4 b i h d) = ∑ t : Fin 512, x (ix3 b i t) * wq (ix2 t ⟨h.val * 64 + d.val, by omega⟩) := by
  pointwise [queries]

theorem maskedScores_apply (q k : FVec Ideal S2x128x32x64 .bf16) (b : Fin 2) (h : Fin 32) (i j : Fin 128) :
    maskedScores q k (ix4 b h i j)
      = Scalar.select (mask (ix2 i j)) ((∑ d : Fin 64, q (ix4 b i h d) * k (ix4 b j h d)) * Ideal.ofBits .f32 0x3E000000#32) ⊥ := by
  pointwise [maskedScores]
  rw [← neg_inf]
  rfl

theorem exps_apply (z : FVec Ideal S2x32x128x128 .f32) (b : Fin 2) (h : Fin 32) (i j : Fin 128) :
    exps z (ix4 b h i j)
      = Ideal.exp (z (ix4 b h i j) - Finset.univ.fold max (⊥ : EReal) fun j' : Fin 128 => z (ix4 b h i j')) := by
  pointwise [exps]
  rw [neg_inf]

theorem weights_apply (e : FVec Ideal S2x32x128x128 .f32) (b : Fin 2) (h : Fin 32) (i j : Fin 128) (hr : rowKeep (ix1 i) = 1#1) :
    weights e (ix4 b h i j) = Ideal.div (e (ix4 b h i j)) (∑ j' : Fin 128, e (ix4 b h i j')) := by
  pointwise [weights]
  rw [hr]
  rfl

theorem contexts_apply (w : FVec Ideal S2x32x128x128 .f32) (v : FVec Ideal S2x128x32x64 .bf16) (b : Fin 2) (i : Fin 128)
    (x : Fin 2048) :
    contexts w v (ix3 b i x)
      = ∑ j : Fin 128, v (ix4 b j ⟨x.val / 64, by omega⟩ ⟨x.val % 64, by omega⟩) * w (ix4 b ⟨x.val / 64, by omega⟩ i j) := by
  pointwise [contexts]

theorem result_apply (a : FVec Ideal S2x128x2048 .f32) (wo : FVec Ideal S2048x512 .bf16) (b : Fin 2) (i : Fin 128) (n : Fin 512) :
    result a wo (ix3 b i n) = ∑ x : Fin 2048, a (ix3 b i x) * wo (ix2 x n) := by
  pointwise [result]

end Cert.ReferenceIdeal.Read

end
-- ==== Proof.RSpec.lean ====
module

public import proofs.«01_k».proof.Proof.RVal

/-!
# The reference computes the attention

With the activations, the query weights and the keys real numbers, the reference's result is the attention of `Spec`.
-/

@[expose] public section

noncomputable section

namespace Cert.ReferenceIdeal.Read

open Cert.ReferenceIdeal Cert.ReferenceIdeal.Gen Cert.ReferenceIdeal.Value
open Idealize.ShloMosaic Idealize.ShloMosaic.TcCoe
open Cert.Spec (keep keep_self score weight context output)

variable (x : FVec Ideal S2x128x512 .bf16) (wq : FVec Ideal S512x2048 .bf16) (k v : FVec Ideal S2x128x32x64 .bf16)
  (wo : FVec Ideal S2048x512 .bf16)
variable (xr : Fin 2 → Fin 128 → Fin 512 → ℝ) (wr : Fin 512 → Fin 2048 → ℝ) (kr : Fin 2 → Fin 128 → Fin 32 → Fin 64 → ℝ)

/-- A masked score. -/
theorem maskedScores_real (hx : ∀ b i t, x (ix3 b i t) = (xr b i t : EReal)) (hw : ∀ t n, wq (ix2 t n) = (wr t n : EReal))
    (hk : ∀ b j h d, k (ix4 b j h d) = (kr b j h d : EReal)) (b : Fin 2) (h : Fin 32) (i j : Fin 128) :
    maskedScores (queries x wq) k (ix4 b h i j) = Softmax.masked (keep i j) (score xr wr kr b i h j) := by
  have hq : ∀ d : Fin 64, queries x wq (ix4 b i h d) = (Spec.query xr wr b i h d : EReal) := fun d => by
    rw [queries_apply]
    simp only [hx, hw]
    exact Spec.coe_dot _ _
  rw [maskedScores_apply, mask_apply, Spec.eighth_f32]
  simp only [hq, hk]
  rw [Spec.coe_dot, ← EReal.coe_mul]
  unfold Softmax.masked
  by_cases hij : keep i j
  · rw [if_pos hij, decide_eq_true hij]; rfl
  · rw [if_neg hij, decide_eq_false hij]; rfl

/-- A weight. -/
theorem weights_real (hx : ∀ b i t, x (ix3 b i t) = (xr b i t : EReal)) (hw : ∀ t n, wq (ix2 t n) = (wr t n : EReal))
    (hk : ∀ b j h d, k (ix4 b j h d) = (kr b j h d : EReal)) (b : Fin 2) (h : Fin 32) (i j : Fin 128) :
    weights (exps (maskedScores (queries x wq) k)) (ix4 b h i j) = (weight xr wr kr b i h j : EReal) := by
  obtain ⟨M, hM⟩ := Softmax.fold_max_real (keep i) (score xr wr kr b i h) ⟨i, keep_self i⟩
  rw [weights_apply _ b h i j (rowKeep_apply i)]
  simp only [exps_apply, maskedScores_real x wq k xr wr kr hx hw hk, hM]
  exact Softmax.quotient (keep i) (score xr wr kr b i h) M ⟨i, keep_self i⟩ j

/-- The result. -/
theorem result_real (hx : ∀ b i t, x (ix3 b i t) = (xr b i t : EReal)) (hw : ∀ t n, wq (ix2 t n) = (wr t n : EReal))
    (hk : ∀ b j h d, k (ix4 b j h d) = (kr b j h d : EReal)) (b : Fin 2) (i : Fin 128) (n : Fin 512) :
    result (contexts (weights (exps (maskedScores (queries x wq) k))) v) wo (ix3 b i n)
      = output xr wr kr (fun b j h d => v (ix4 b j h d)) (fun y n => wo (ix2 y n)) b i n := by
  rw [result_apply]
  refine Finset.sum_congr rfl fun y _ => congrArg (· * (wo (ix2 y n) : EReal)) ?_
  rw [contexts_apply]
  refine Finset.sum_congr rfl fun j _ => ?_
  rw [weights_real x wq k xr wr kr hx hw hk]
  exact mul_comm _ _

end Cert.ReferenceIdeal.Read

end
-- ==== Proof.Algebra.lean ====
module

public import proofs.«01_k».proof.Defs
public import proofs.«01_k».proof.Proof.KSpec
public import proofs.«01_k».proof.Proof.RSpec
public import proofs.«01_k».proof.Proof.Launch
public import Idealize.ShloMosaic.Lib.Layout

/-!
# Kernel and reference compute one function

What the precondition says of each array, where the devices' blocks lie in the reference's arrays, and the claim.
-/

@[expose] public section

noncomputable section

namespace Cert.Algebra

open Idealize.ShloMosaic Idealize.ShloMosaic.TcCoe Idealize.SL.Sem

/-- The broadcasts of the precondition for a device's blocks, -/
theorem preK : Cert.Pre_finite_scores_KernelIdeal.Facts := ⟨by decide, by decide, by decide⟩
/-- and for whole arrays. -/
theorem preR : Cert.Pre_finite_scores_ReferenceIdeal.Facts := ⟨by decide, by decide, by decide⟩

/-- An array whose absolute values lie below infinity is one of real numbers. -/
theorem finite {S : Shape} (x : FVec Ideal S .bf16)
    (hb : (⟨0, ![]⟩ : Shape).BroadcastsInDim S (![] : Fin 0 → Fin S.rank))
    (h : cmpf .olt (Host.absf x) (broadcastInDim S ![] hb (constant ⟨0, ![]⟩ .bf16 0x7F80#16)) = fun _ => 1#1) (i : S.Idx) :
    (x i : EReal) = (((x i : EReal).toReal : ℝ) : EReal) := by
  have h1 : Ideal.cmp .olt (max (x i : EReal) (-(x i : EReal))) ⊤ = 1#1 := congrFun h i
  have h2 : max (x i : EReal) (-(x i : EReal)) < ⊤ := by
    by_contra hn
    have h0 : Ideal.cmp .olt (max (x i : EReal) (-(x i : EReal))) ⊤ = 0#1 := by
      show BitVec.ofBool (decide _) = _
      rw [decide_eq_false hn]; rfl
    rw [h0] at h1
    exact absurd h1 (by decide)
  refine (EReal.coe_toReal (ne_of_lt (lt_of_le_of_lt (le_max_left _ _) h2)) fun hbot => ?_).symm
  rw [hbot, EReal.neg_bot] at h2
  exact absurd h2 (by simp)

/-- Device `c`'s block of an array cut by heads: its head `h` is head `4 c + h`. -/
theorem block_at {α : Type} (c : Fin 8) (v : (⟨4, ![2, 128, 32, 64]⟩ : Shape).Idx → α) (b : Fin 2) (j : Fin 128) (h : Fin 4) (d : Fin 64) :
    Layout.block ⟨4, ![2, 128, 4, 64]⟩ ⟨4, ![2, 128, 32, 64]⟩ 2 8 c v (by decide) (ix4 b j h d)
      = v (ix4 b j ⟨c.val * 4 + h.val, Blocks.at_lt (m := 8) rfl c h⟩ d) := by
  rw [Layout.block_apply]
  refine congrArg v (funext fun a => Fin.ext ?_)
  rw [Layout.Tiles.idx_val]
  fin_cases a <;> rfl

set_option maxRecDepth 8192 in
/-- The results of kernel and reference. -/
theorem algebraic :
    letI := preK
    Cert.algebraic_KernelIdeal_ReferenceIdeal_pre_finite_scores_KernelIdeal := by
  letI := preK
  intro m ρ m' ρ' hp ha
  -- the reference's arrays
  let X := Cert.ReferenceIdeal.Read.gX m' 0
  let W := Cert.ReferenceIdeal.Read.gWq m' 0
  let K := Cert.ReferenceIdeal.Read.gK m' 0
  let V := Cert.ReferenceIdeal.Read.gV m' 0
  let O := Cert.ReferenceIdeal.Read.gWo m' 0
  have aX : ∀ c, Cert.KernelIdeal.Talk.gX m c = X := fun c => (ha c).1
  have aW : ∀ c, Cert.KernelIdeal.Talk.gWq m c = W := fun c => (ha c).2.1
  have aK : ∀ (c : Dev Cert.KernelIdeal.nD) b j (h : Fin 4) d, Cert.KernelIdeal.Talk.gK m c (ix4 b j h d)
      = K (ix4 b j ⟨c.val * 4 + h.val, Blocks.at_lt (m := 8) rfl c h⟩ d) := fun c b j h d =>
    (congrFun (ha c).2.2.1 _).trans (block_at c K b j h d)
  have aV : ∀ (c : Dev Cert.KernelIdeal.nD) b j (h : Fin 4) d, Cert.KernelIdeal.Talk.gV m c (ix4 b j h d)
      = V (ix4 b j ⟨c.val * 4 + h.val, Blocks.at_lt (m := 8) rfl c h⟩ d) := fun c b j h d =>
    (congrFun (ha c).2.2.2.1 _).trans (block_at c V b j h d)
  have aO : ∀ c, Cert.KernelIdeal.Talk.gWo m c = O := fun c => (ha c).2.2.2.2
  -- they are real numbers where the scores need it
  have fX : ∀ i, X i = ((X i).toReal : EReal) := fun i => by
    rw [← aX 0]; exact finite (Cert.KernelIdeal.Talk.gX m 0) _ (hp 0).1 i
  have fW : ∀ i, W i = ((W i).toReal : EReal) := fun i => by
    rw [← aW 0]; exact finite (Cert.KernelIdeal.Talk.gWq m 0) _ (hp 0).2.1 i
  have fK : ∀ b j h d, K (ix4 b j h d) = ((K (ix4 b j h d)).toReal : EReal) := fun b j h d => by
    have hh : (⟨h.val / 4 * 4 + h.val % 4, by omega⟩ : Fin 32) = h := Fin.ext (Nat.div_add_mod' h.val 4)
    have e := aK ⟨h.val / 4, by show _ < 8; omega⟩ b j ⟨h.val % 4, by omega⟩ d
    dsimp only at e
    rw [hh] at e
    rw [← e]
    exact finite (Cert.KernelIdeal.Talk.gK m ⟨h.val / 4, by show _ < 8; omega⟩) _ (hp _).2.2 _
  -- so the devices hold one attention's arrays
  have H : Cert.KernelIdeal.Talk.Holds m (fun b i t => (X (ix3 b i t)).toReal) (fun t n => (W (ix2 t n)).toReal)
      (fun b j h d => (K (ix4 b j h d)).toReal) (fun b j h d => V (ix4 b j h d)) (fun y n => O (ix2 y n)) :=
    { x := fun c b i t => (congrFun (aX c) _).trans (fX _)
      w := fun c t n => (congrFun (aW c) _).trans (fW _)
      k := fun c b j h d => (aK c b j h d).trans (fK _ _ _ _)
      v := aV
      o := fun c y n => congrFun (aO c) _ }
  have hR : ∀ b i n, (Cert.ReferenceIdeal.Value.res_main_v49 m' 0 : Cert.ReferenceIdeal.S2x128x512.Idx → EReal) (ix3 b i n)
      = Spec.output (fun b i t => (X (ix3 b i t)).toReal) (fun t n => (W (ix2 t n)).toReal)
          (fun b j h d => (K (ix4 b j h d)).toReal) (fun b j h d => V (ix4 b j h d)) (fun y n => O (ix2 y n)) b i n := fun b i n => by
    rw [Cert.ReferenceIdeal.Read.res_eq]
    exact Cert.ReferenceIdeal.Read.result_real X W K V O _ _ _ (fun _ _ _ => fX _) (fun _ _ => fW _) fK b i n
  refine ⟨Cert.ReferenceIdeal.Value.res_main_v49 m' 0, ?_, ?_⟩
  · refine (θ_run Cert.KernelIdeal.defs _ _).mono (fun r h c => ⟨?_, Cert.KernelIdeal.Talk.args m c r.2 (h.1 c)⟩)
      (Cert.KernelIdeal.Talk.run_main (F := Ideal) m ρ)
    refine (h.1 c (Proc.devRef .tc Cert.KernelIdeal.main_v18)
      (Finset.mem_filter.mpr ⟨StableHlo.devRef_mem_tcRefs Cert.KernelIdeal.main_v18, by decide⟩)).trans ?_
    refine funext fun j => ?_
    idx_vars j
    exact (Cert.KernelIdeal.Talk.final_real H c j0 j1 j2).trans (hR j0 j1 j2).symm
  · exact (θ_run Cert.ReferenceIdeal.defs _ _).mono (fun r h => h 0) (Cert.ReferenceIdeal.Value.run (F := Ideal) m' ρ')

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Algebra.preK, Algebra.preR,
    Frames.kernel, Frames.kernelIdeal, fun m ρ _ => Frames.kernelIdeal m ρ trivial,
    Frames.referenceIdeal, fun m ρ _ => Frames.referenceIdeal m ρ trivial, Frames.preserves, Algebra.algebraic⟩

end Cert.Proof

end
